-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nearest_distinct [hPre_nearest_distinct : Cert.Pre_nearest_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_nearest_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_nearest_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_nearest_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_nearest_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.1 = (fun _ => 1#1)
    ∧ (Cert.Pre_nearest_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.1 = (fun _ => 1#1)
    ∧ (Cert.Pre_nearest_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.1 = (fun _ => 1#1)
    ∧ (Cert.Pre_nearest_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.1 = (fun _ => 1#1)
    ∧ (Cert.Pre_nearest_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.1 = (fun _ => 1#1)
    ∧ (Cert.Pre_nearest_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.1 = (fun _ => 1#1)
    ∧ (Cert.Pre_nearest_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.1 = (fun _ => 1#1)
    ∧ (Cert.Pre_nearest_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.1 = (fun _ => 1#1)
    ∧ (Cert.Pre_nearest_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.1 = (fun _ => 1#1)
    ∧ (Cert.Pre_nearest_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.2.1 = (fun _ => 1#1)
    ∧ (Cert.Pre_nearest_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nearest_distinct [hPre_nearest_distinct : Cert.Pre_nearest_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nearest_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_nearest_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_nearest_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_nearest_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.1 = (fun _ => 1#1)
    ∧ (Cert.Pre_nearest_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.1 = (fun _ => 1#1)
    ∧ (Cert.Pre_nearest_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.1 = (fun _ => 1#1)
    ∧ (Cert.Pre_nearest_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.1 = (fun _ => 1#1)
    ∧ (Cert.Pre_nearest_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.1 = (fun _ => 1#1)
    ∧ (Cert.Pre_nearest_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.1 = (fun _ => 1#1)
    ∧ (Cert.Pre_nearest_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.1 = (fun _ => 1#1)
    ∧ (Cert.Pre_nearest_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.1 = (fun _ => 1#1)
    ∧ (Cert.Pre_nearest_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.1 = (fun _ => 1#1)
    ∧ (Cert.Pre_nearest_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.2.1 = (fun _ => 1#1)
    ∧ (Cert.Pre_nearest_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_nearest_distinct [hKernelIdeal : Cert.KernelIdeal.Facts] [hPre_nearest_distinct : Cert.Pre_nearest_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nearest_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_nearest_distinct [hReferenceIdeal : Cert.ReferenceIdeal.Facts] [hPre_nearest_distinct : Cert.Pre_nearest_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nearest_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "farthest" .f32 0x7F61B1E6#32 ⊤

def algebraic_KernelIdeal_ReferenceIdeal_pre_nearest_distinct [hKernelIdeal : Cert.KernelIdeal.Facts] [hReferenceIdeal : Cert.ReferenceIdeal.Facts] [hPre_nearest_distinct : Cert.Pre_nearest_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nearest_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_nearest_distinct : Cert.Pre_nearest_distinct.Facts),
    quiescent_Kernel (hKernel := hKernel)
    ∧ quiescent_KernelIdeal (hKernelIdeal := hKernelIdeal)
    ∧ quiescent_KernelIdeal_pre_nearest_distinct (hKernelIdeal := hKernelIdeal) (hPre_nearest_distinct := hPre_nearest_distinct)
    ∧ quiescent_ReferenceIdeal (hReferenceIdeal := hReferenceIdeal)
    ∧ quiescent_ReferenceIdeal_pre_nearest_distinct (hReferenceIdeal := hReferenceIdeal) (hPre_nearest_distinct := hPre_nearest_distinct)
    ∧ preserves_Kernel_KernelIdeal
    ∧ algebraic_KernelIdeal_ReferenceIdeal_pre_nearest_distinct (hKernelIdeal := hKernelIdeal) (hReferenceIdeal := hReferenceIdeal) (hPre_nearest_distinct := hPre_nearest_distinct)
-- ==== Pre_nearest_distinct.lean ====
abbrev S3x16384 : Shape := ⟨2, ![3, 16384]⟩
abbrev S3x4096 : Shape := ⟨2, ![3, 4096]⟩
abbrev S128x16384 : Shape := ⟨2, ![128, 16384]⟩
abbrev S256x4096 : Shape := ⟨2, ![256, 4096]⟩
abbrev S384x256 : Shape := ⟨2, ![384, 256]⟩
abbrev S256 : Shape := ⟨1, ![256]⟩
abbrev S256x128 : Shape := ⟨2, ![256, 128]⟩
abbrev S128 : Shape := ⟨1, ![128]⟩
abbrev S16384x3 : Shape := ⟨2, ![16384, 3]⟩
abbrev S4096x3 : Shape := ⟨2, ![4096, 3]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S4096 : Shape := ⟨1, ![4096]⟩
abbrev S1x4096 : Shape := ⟨2, ![1, 4096]⟩
abbrev S16384x4 : Shape := ⟨2, ![16384, 4]⟩

class Facts : Prop where
  transposes_S3x16384_S16384x3_1_0 : S3x16384.Transposes [1, 0] S16384x3
  transposes_S3x4096_S4096x3_1_0 : S3x4096.Transposes [1, 0] S4096x3
  transposes_S4096x3_S3x4096_1_0 : S4096x3.Transposes [1, 0] S3x4096
  bcast_S_S16384x4096 : S_.BroadcastsInDim S16384x4096 (![] : Fin 0 → Fin S16384x4096.rank)
  reducesTo_S16384x3_S16384_d1 : S16384x3.ReducesTo [1] S16384
  h_S_ : 0 < S_.numel
  shapeCasts_S16384_S16384x1 : S16384.ShapeCasts S16384x1
  bcast_S16384x1_S16384x4096_0_1 : S16384x1.BroadcastsInDim S16384x4096 (![0, 1] : Fin 2 → Fin S16384x4096.rank)
  reducesTo_S4096x3_S4096_d1 : S4096x3.ReducesTo [1] S4096
  shapeCasts_S4096_S1x4096 : S4096.ShapeCasts S1x4096
  bcast_S1x4096_S16384x4096_0_1 : S1x4096.BroadcastsInDim S16384x4096 (![0, 1] : Fin 2 → Fin S16384x4096.rank)
  slices_S16384x4096_S16384x4_0_0 : S16384x4096.Slices ![0, 0] S16384x4
  bcast_S_S3x16384 : S_.BroadcastsInDim S3x16384 (![] : Fin 0 → Fin S3x16384.rank)
  reducesTo_S3x16384_S_d0_1 : S3x16384.ReducesTo [0, 1] S_
  bcast_S_S3x4096 : S_.BroadcastsInDim S3x4096 (![] : Fin 0 → Fin S3x4096.rank)
  reducesTo_S3x4096_S_d0_1 : S3x4096.ReducesTo [0, 1] S_
  bcast_S_S128x16384 : S_.BroadcastsInDim S128x16384 (![] : Fin 0 → Fin S128x16384.rank)
  reducesTo_S128x16384_S_d0_1 : S128x16384.ReducesTo [0, 1] S_
  bcast_S_S256x4096 : S_.BroadcastsInDim S256x4096 (![] : Fin 0 → Fin S256x4096.rank)
  reducesTo_S256x4096_S_d0_1 : S256x4096.ReducesTo [0, 1] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  slices_S16384x4_S16384x3_0_0 : S16384x4.Slices ![0, 0] S16384x3
  slices_S16384x4_S16384x3_0_1 : S16384x4.Slices ![0, 1] S16384x3
  reducesTo_S16384x3_S_d0_1 : S16384x3.ReducesTo [0, 1] S_
  dot_S16384x3_S3x4096_S16384x4096_1_0_0_1_n_n_wf : DotDims.WF S16384x3 S3x4096 S16384x4096 [1] [0] [0] [1] [] []

variable [Facts]

variable {F : FTy → Type} [FloatOps F]
def dot_S16384x3_S3x4096_S16384x4096_1_0_0_1_n_n : DotDims S16384x3 S3x4096 S16384x4096 where
  lhsContracting := [1]
  rhsContracting := [0]
  lhsNonContracting := [0]
  rhsNonContracting := [1]
  lhsBatch := []
  rhsBatch := []
  wf := dot_S16384x3_S3x4096_S16384x4096_1_0_0_1_n_n_wf
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S16384x4096 .f32) : FVec F S16384x4096 .f32 :=
  let v0 : FVec F S16384x4096 .f32 := (fun x => Host.sort S16384x4096 1 comparator_f32_d1 x) arg0
  v0

def fn_part4 {F : FTy → Type} [FloatOps F] (main_arg15 : FVec F S128 .f32) (main_v21 : IVec S_ 1) (main_v25 : IVec S_ 1) (main_v29 : IVec S_ 1) (main_v33 : IVec S_ 1) (main_v37 : IVec S_ 1) (main_v41 : IVec S_ 1) (main_v45 : IVec S_ 1) (main_v49 : IVec S_ 1) (main_v53 : IVec S_ 1) (main_v57 : IVec S_ 1) (main_v61 : IVec S_ 1) (main_v65 : IVec S_ 1) (main_v67 : FVec F S256 .f32) (main_cst_25 : FVec F S_ .f32) : IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 :=
  let main_v68 : FVec F S256 .f32 := broadcastInDim S256 ![] bcast_S_S256 main_cst_25
  let main_v69 : IVec S256 1 := cmpf .une main_v67 main_v68
  let main_c_26 : IVec S_ 1 := constantI S_ 1 1#1
  let main_v70 : IVec S_ 1 := (fun x v => Host.reduce IntOp.andi x v reducesTo_S256_S_d0 h_S_) main_v69 main_c_26
  let main_cst_27 : FVec F S_ .f32 := constant S_ .f32 0x3727C5AC#32
  let main_v71 : FVec F S128 .f32 := broadcastInDim S128 ![] bcast_S_S128 main_cst_27
  let main_v72 : FVec F S128 .f32 := addf main_arg15 main_v71
  let main_cst_28 : FVec F S_ .f32 := constant S_ .f32 0x00000000#32
  let main_v73 : FVec F S128 .f32 := broadcastInDim S128 ![] bcast_S_S128 main_cst_28
  let main_v74 : IVec S128 1 := cmpf .une main_v72 main_v73
  let main_c_29 : IVec S_ 1 := constantI S_ 1 1#1
  let main_v75 : IVec S_ 1 := (fun x v => Host.reduce IntOp.andi x v reducesTo_S128_S_d0 h_S_) main_v74 main_c_29
  (main_v65, main_v21, main_v25, main_v29, main_v33, main_v37, main_v41, main_v45, main_v49, main_v53, main_v57, main_v61, main_v70, main_v75)

def fn_part3 {F : FTy → Type} [FloatOps F] (main_arg9 : FVec F S256 .f32) (main_arg10 : FVec F S256x128 .f32) (main_arg12 : FVec F S128 .f32) (main_arg15 : FVec F S128 .f32) (main_v17 : FVec F S16384x4 .f32) (main_v21 : IVec S_ 1) (main_v25 : IVec S_ 1) (main_v29 : IVec S_ 1) (main_v33 : IVec S_ 1) (main_v37 : IVec S_ 1) (main_v41 : IVec S_ 1) (main_v45 : IVec S_ 1) (main_v49 : IVec S_ 1) (main_v50 : FVec F S256 .f32) (main_v51 : FVec F S256 .f32) : IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 :=
  let main_v52 : IVec S256 1 := cmpf .olt main_v50 main_v51
  let main_c_18 : IVec S_ 1 := constantI S_ 1 1#1
  let main_v53 : IVec S_ 1 := (fun x v => Host.reduce IntOp.andi x v reducesTo_S256_S_d0 h_S_) main_v52 main_c_18
  let main_v54 : FVec F S256x128 .f32 := Host.absf main_arg10
  let main_cst_19 : FVec F S_ .f32 := constant S_ .f32 0x7F800000#32
  let main_v55 : FVec F S256x128 .f32 := broadcastInDim S256x128 ![] bcast_S_S256x128 main_cst_19
  let main_v56 : IVec S256x128 1 := cmpf .olt main_v54 main_v55
  let main_c_20 : IVec S_ 1 := constantI S_ 1 1#1
  let main_v57 : IVec S_ 1 := (fun x v => Host.reduce IntOp.andi x v reducesTo_S256x128_S_d0_1 h_S_) main_v56 main_c_20
  let main_v58 : FVec F S128 .f32 := Host.absf main_arg12
  let main_cst_21 : FVec F S_ .f32 := constant S_ .f32 0x7F800000#32
  let main_v59 : FVec F S128 .f32 := broadcastInDim S128 ![] bcast_S_S128 main_cst_21
  let main_v60 : IVec S128 1 := cmpf .olt main_v58 main_v59
  let main_c_22 : IVec S_ 1 := constantI S_ 1 1#1
  let main_v61 : IVec S_ 1 := (fun x v => Host.reduce IntOp.andi x v reducesTo_S128_S_d0 h_S_) main_v60 main_c_22
  let main_v62 : FVec F S16384x3 .f32 := (extractStridedSlice S16384x3 ![0, 0] · slices_S16384x4_S16384x3_0_0) main_v17
  let main_v63 : FVec F S16384x3 .f32 := (extractStridedSlice S16384x3 ![0, 1] · slices_S16384x4_S16384x3_0_1) main_v17
  let main_v64 : IVec S16384x3 1 := cmpf .olt main_v62 main_v63
  let main_c_23 : IVec S_ 1 := constantI S_ 1 1#1
  let main_v65 : IVec S_ 1 := (fun x v => Host.reduce IntOp.andi x v reducesTo_S16384x3_S_d0_1 h_S_) main_v64 main_c_23
  let main_cst_24 : FVec F S_ .f32 := constant S_ .f32 0x3727C5AC#32
  let main_v66 : FVec F S256 .f32 := broadcastInDim S256 ![] bcast_S_S256 main_cst_24
  let main_v67 : FVec F S256 .f32 := addf main_arg9 main_v66
  let main_cst_25 : FVec F S_ .f32 := constant S_ .f32 0x00000000#32
  fn_part4 (F := F) main_arg15 main_v21 main_v25 main_v29 main_v33 main_v37 main_v41 main_v45 main_v49 main_v53 main_v57 main_v61 main_v65 main_v67 main_cst_25

def fn_part2 {F : FTy → Type} [FloatOps F] (main_arg5 : FVec F S256 .f32) (main_arg6 : FVec F S256 .f32) (main_arg7 : FVec F S256 .f32) (main_arg8 : FVec F S256 .f32) (main_arg9 : FVec F S256 .f32) (main_arg10 : FVec F S256x128 .f32) (main_arg12 : FVec F S128 .f32) (main_arg15 : FVec F S128 .f32) (main_v17 : FVec F S16384x4 .f32) (main_v21 : IVec S_ 1) (main_v25 : IVec S_ 1) (main_v29 : IVec S_ 1) (main_v33 : IVec S_ 1) (main_v34 : FVec F S384x256 .f32) (main_v35 : FVec F S384x256 .f32) : IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 :=
  let main_v36 : IVec S384x256 1 := cmpf .olt main_v34 main_v35
  let main_c_10 : IVec S_ 1 := constantI S_ 1 1#1
  let main_v37 : IVec S_ 1 := (fun x v => Host.reduce IntOp.andi x v reducesTo_S384x256_S_d0_1 h_S_) main_v36 main_c_10
  let main_v38 : FVec F S256 .f32 := Host.absf main_arg5
  let main_cst_11 : FVec F S_ .f32 := constant S_ .f32 0x7F800000#32
  let main_v39 : FVec F S256 .f32 := broadcastInDim S256 ![] bcast_S_S256 main_cst_11
  let main_v40 : IVec S256 1 := cmpf .olt main_v38 main_v39
  let main_c_12 : IVec S_ 1 := constantI S_ 1 1#1
  let main_v41 : IVec S_ 1 := (fun x v => Host.reduce IntOp.andi x v reducesTo_S256_S_d0 h_S_) main_v40 main_c_12
  let main_v42 : FVec F S256 .f32 := Host.absf main_arg6
  let main_cst_13 : FVec F S_ .f32 := constant S_ .f32 0x7F800000#32
  let main_v43 : FVec F S256 .f32 := broadcastInDim S256 ![] bcast_S_S256 main_cst_13
  let main_v44 : IVec S256 1 := cmpf .olt main_v42 main_v43
  let main_c_14 : IVec S_ 1 := constantI S_ 1 1#1
  let main_v45 : IVec S_ 1 := (fun x v => Host.reduce IntOp.andi x v reducesTo_S256_S_d0 h_S_) main_v44 main_c_14
  let main_v46 : FVec F S256 .f32 := Host.absf main_arg7
  let main_cst_15 : FVec F S_ .f32 := constant S_ .f32 0x7F800000#32
  let main_v47 : FVec F S256 .f32 := broadcastInDim S256 ![] bcast_S_S256 main_cst_15
  let main_v48 : IVec S256 1 := cmpf .olt main_v46 main_v47
  let main_c_16 : IVec S_ 1 := constantI S_ 1 1#1
  let main_v49 : IVec S_ 1 := (fun x v => Host.reduce IntOp.andi x v reducesTo_S256_S_d0 h_S_) main_v48 main_c_16
  let main_v50 : FVec F S256 .f32 := Host.absf main_arg8
  let main_cst_17 : FVec F S_ .f32 := constant S_ .f32 0x7F800000#32
  let main_v51 : FVec F S256 .f32 := broadcastInDim S256 ![] bcast_S_S256 main_cst_17
  fn_part3 (F := F) main_arg9 main_arg10 main_arg12 main_arg15 main_v17 main_v21 main_v25 main_v29 main_v33 main_v37 main_v41 main_v45 main_v49 main_v50 main_v51

def fn_part1 {F : FTy → Type} [FloatOps F] (main_arg1 : FVec F S3x4096 .f32) (main_arg2 : FVec F S128x16384 .f32) (main_arg3 : FVec F S256x4096 .f32) (main_arg4 : FVec F S384x256 .f32) (main_arg5 : FVec F S256 .f32) (main_arg6 : FVec F S256 .f32) (main_arg7 : FVec F S256 .f32) (main_arg8 : FVec F S256 .f32) (main_arg9 : FVec F S256 .f32) (main_arg10 : FVec F S256x128 .f32) (main_arg12 : FVec F S128 .f32) (main_arg15 : FVec F S128 .f32) (main_v17 : FVec F S16384x4 .f32) (main_v18 : FVec F S3x16384 .f32) (main_v19 : FVec F S3x16384 .f32) : IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 :=
  let main_v20 : IVec S3x16384 1 := cmpf .olt main_v18 main_v19
  let main_c : IVec S_ 1 := constantI S_ 1 1#1
  let main_v21 : IVec S_ 1 := (fun x v => Host.reduce IntOp.andi x v reducesTo_S3x16384_S_d0_1 h_S_) main_v20 main_c
  let main_v22 : FVec F S3x4096 .f32 := Host.absf main_arg1
  let main_cst_3 : FVec F S_ .f32 := constant S_ .f32 0x7F800000#32
  let main_v23 : FVec F S3x4096 .f32 := broadcastInDim S3x4096 ![] bcast_S_S3x4096 main_cst_3
  let main_v24 : IVec S3x4096 1 := cmpf .olt main_v22 main_v23
  let main_c_4 : IVec S_ 1 := constantI S_ 1 1#1
  let main_v25 : IVec S_ 1 := (fun x v => Host.reduce IntOp.andi x v reducesTo_S3x4096_S_d0_1 h_S_) main_v24 main_c_4
  let main_v26 : FVec F S128x16384 .f32 := Host.absf main_arg2
  let main_cst_5 : FVec F S_ .f32 := constant S_ .f32 0x7F800000#32
  let main_v27 : FVec F S128x16384 .f32 := broadcastInDim S128x16384 ![] bcast_S_S128x16384 main_cst_5
  let main_v28 : IVec S128x16384 1 := cmpf .olt main_v26 main_v27
  let main_c_6 : IVec S_ 1 := constantI S_ 1 1#1
  let main_v29 : IVec S_ 1 := (fun x v => Host.reduce IntOp.andi x v reducesTo_S128x16384_S_d0_1 h_S_) main_v28 main_c_6
  let main_v30 : FVec F S256x4096 .f32 := Host.absf main_arg3
  let main_cst_7 : FVec F S_ .f32 := constant S_ .f32 0x7F800000#32
  let main_v31 : FVec F S256x4096 .f32 := broadcastInDim S256x4096 ![] bcast_S_S256x4096 main_cst_7
  let main_v32 : IVec S256x4096 1 := cmpf .olt main_v30 main_v31
  let main_c_8 : IVec S_ 1 := constantI S_ 1 1#1
  let main_v33 : IVec S_ 1 := (fun x v => Host.reduce IntOp.andi x v reducesTo_S256x4096_S_d0_1 h_S_) main_v32 main_c_8
  let main_v34 : FVec F S384x256 .f32 := Host.absf main_arg4
  let main_cst_9 : FVec F S_ .f32 := constant S_ .f32 0x7F800000#32
  let main_v35 : FVec F S384x256 .f32 := broadcastInDim S384x256 ![] bcast_S_S384x256 main_cst_9
  fn_part2 (F := F) main_arg5 main_arg6 main_arg7 main_arg8 main_arg9 main_arg10 main_arg12 main_arg15 main_v17 main_v21 main_v25 main_v29 main_v33 main_v34 main_v35

def fn {F : FTy → Type} [FloatOps F] (main_arg0 : FVec F S3x16384 .f32) (main_arg1 : FVec F S3x4096 .f32) (main_arg2 : FVec F S128x16384 .f32) (main_arg3 : FVec F S256x4096 .f32) (main_arg4 : FVec F S384x256 .f32) (main_arg5 : FVec F S256 .f32) (main_arg6 : FVec F S256 .f32) (main_arg7 : FVec F S256 .f32) (main_arg8 : FVec F S256 .f32) (main_arg9 : FVec F S256 .f32) (main_arg10 : FVec F S256x128 .f32) (main_arg11 : FVec F S128 .f32) (main_arg12 : FVec F S128 .f32) (main_arg13 : FVec F S128 .f32) (main_arg14 : FVec F S128 .f32) (main_arg15 : FVec F S128 .f32) : IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 :=
  let main_v0 : FVec F S16384x3 .f32 := (transpose S16384x3 [1, 0] · transposes_S3x16384_S16384x3_1_0) main_arg0
  let main_v1 : FVec F S4096x3 .f32 := (transpose S4096x3 [1, 0] · transposes_S3x4096_S4096x3_1_0) main_arg1
  let main_v2 : FVec F S3x4096 .f32 := (transpose S3x4096 [1, 0] · transposes_S4096x3_S3x4096_1_0) main_v1
  let main_v3 : FVec F S16384x4096 .f32 := (fun l r => Host.dotGeneral dot_S16384x3_S3x4096_S16384x4096_1_0_0_1_n_n none l r) main_v0 main_v2
  let main_cst : FVec F S_ .f32 := constant S_ .f32 0xC0000000#32
  let main_v4 : FVec F S16384x4096 .f32 := broadcastInDim S16384x4096 ![] bcast_S_S16384x4096 main_cst
  let main_v5 : FVec F S16384x4096 .f32 := mulf main_v4 main_v3
  let main_v6 : FVec F S16384x3 .f32 := mulf main_v0 main_v0
  let main_cst_0 : FVec F S_ .f32 := constant S_ .f32 0x00000000#32
  let main_v7 : FVec F S16384 .f32 := (fun x v => Host.reduceAdd x v reducesTo_S16384x3_S16384_d1 h_S_) main_v6 main_cst_0
  let main_v8 : FVec F S16384x1 .f32 := shapeCast S16384x1 main_v7 shapeCasts_S16384_S16384x1
  let main_v9 : FVec F S16384x4096 .f32 := broadcastInDim S16384x4096 ![0, 1] bcast_S16384x1_S16384x4096_0_1 main_v8
  let main_v10 : FVec F S16384x4096 .f32 := addf main_v5 main_v9
  let main_v11 : FVec F S4096x3 .f32 := mulf main_v1 main_v1
  let main_cst_1 : FVec F S_ .f32 := constant S_ .f32 0x00000000#32
  let main_v12 : FVec F S4096 .f32 := (fun x v => Host.reduceAdd x v reducesTo_S4096x3_S4096_d1 h_S_) main_v11 main_cst_1
  let main_v13 : FVec F S1x4096 .f32 := shapeCast S1x4096 main_v12 shapeCasts_S4096_S1x4096
  let main_v14 : FVec F S16384x4096 .f32 := broadcastInDim S16384x4096 ![0, 1] bcast_S1x4096_S16384x4096_0_1 main_v13
  let main_v15 : FVec F S16384x4096 .f32 := addf main_v10 main_v14
  let main_v16 : FVec F S16384x4096 .f32 := fn_sort (F := F) main_v15
  let main_v17 : FVec F S16384x4 .f32 := (extractStridedSlice S16384x4 ![0, 0] · slices_S16384x4096_S16384x4_0_0) main_v16
  let main_v18 : FVec F S3x16384 .f32 := Host.absf main_arg0
  let main_cst_2 : FVec F S_ .f32 := constant S_ .f32 0x7F800000#32
  let main_v19 : FVec F S3x16384 .f32 := broadcastInDim S3x16384 ![] bcast_S_S3x16384 main_cst_2
  fn_part1 (F := F) main_arg1 main_arg2 main_arg3 main_arg4 main_arg5 main_arg6 main_arg7 main_arg8 main_arg9 main_arg10 main_arg12 main_arg15 main_v17 main_v18 main_v19
-- ==== Kernel.lean ====
abbrev S3x16384 : Shape := ⟨2, ![3, 16384]⟩
abbrev S3x4096 : Shape := ⟨2, ![3, 4096]⟩
abbrev S128x16384 : Shape := ⟨2, ![128, 16384]⟩
abbrev S256x4096 : Shape := ⟨2, ![256, 4096]⟩
abbrev S384x256 : Shape := ⟨2, ![384, 256]⟩
abbrev S256 : Shape := ⟨1, ![256]⟩
abbrev S256x128 : Shape := ⟨2, ![256, 128]⟩
abbrev S128 : Shape := ⟨1, ![128]⟩
abbrev S_ : Shape := ⟨0, ![]⟩
abbrev S1x256 : Shape := ⟨2, ![1, 256]⟩
abbrev S1x128 : Shape := ⟨2, ![1, 128]⟩
abbrev S16384x3 : Shape := ⟨2, ![16384, 3]⟩
abbrev S16384x8 : Shape := ⟨2, ![16384, 8]⟩
abbrev S8x4096 : Shape := ⟨2, ![8, 4096]⟩
abbrev S16384x128 : Shape := ⟨2, ![16384, 128]⟩
abbrev S4096x256 : Shape := ⟨2, ![4096, 256]⟩
abbrev S256x8 : Shape := ⟨2, ![256, 8]⟩
abbrev S128x256 : Shape := ⟨2, ![128, 256]⟩
abbrev S256x1 : Shape := ⟨2, ![256, 1]⟩
abbrev S4096 : Shape := ⟨1, ![4096]⟩
abbrev S1x4096 : Shape := ⟨2, ![1, 4096]⟩
abbrev S256x384 : Shape := ⟨2, ![256, 384]⟩
abbrev S256x256 : Shape := ⟨2, ![256, 256]⟩

abbrev nBuf : Space → Nat
  | .hbm => 50
  | .vmem => 16
  | .smem => 0
  | _ => 0

abbrev bufTy : (tb : Table) → Fin (tcTables nBuf tb) → BufTy
  | .hbm, ⟨0, _⟩ => ⟨S3x16384, .f32⟩
  | .hbm, ⟨1, _⟩ => ⟨S3x4096, .f32⟩
  | .hbm, ⟨2, _⟩ => ⟨S128x16384, .f32⟩
  | .hbm, ⟨3, _⟩ => ⟨S256x4096, .f32⟩
  | .hbm, ⟨4, _⟩ => ⟨S384x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S_, .f32⟩
  | .hbm, ⟨17, _⟩ => ⟨S256, .f32⟩
  | .hbm, ⟨18, _⟩ => ⟨S256, .f32⟩
  | .hbm, ⟨19, _⟩ => ⟨S256, .f32⟩
  | .hbm, ⟨20, _⟩ => ⟨S256, .f32⟩
  | .hbm, ⟨21, _⟩ => ⟨S1x256, .f32⟩
  | .hbm, ⟨22, _⟩ => ⟨S384x256, .f32⟩
  | .hbm, ⟨23, _⟩ => ⟨S384x256, .f32⟩
  | .hbm, ⟨24, _⟩ => ⟨S256, .f32⟩
  | .hbm, ⟨25, _⟩ => ⟨S256, .f32⟩
  | .hbm, ⟨26, _⟩ => ⟨S256, .f32⟩
  | .hbm, ⟨27, _⟩ => ⟨S1x256, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S128, .f32⟩
  | .hbm, ⟨32, _⟩ => ⟨S128, .f32⟩
  | .hbm, ⟨33, _⟩ => ⟨S1x128, .f32⟩
  | .hbm, ⟨34, _⟩ => ⟨S256x128, .f32⟩
  | .hbm, ⟨35, _⟩ => ⟨S256x128, .f32⟩
  | .hbm, ⟨36, _⟩ => ⟨S128, .f32⟩
  | .hbm, ⟨37, _⟩ => ⟨S128, .f32⟩
  | .hbm, ⟨38, _⟩ => ⟨S128, .f32⟩
  | .hbm, ⟨39, _⟩ => ⟨S1x128, .f32⟩
  | .hbm, ⟨40, _⟩ => ⟨S16384x3, .f32⟩
  | .hbm, ⟨41, _⟩ => ⟨S_, .i32⟩
  | .hbm, ⟨42, _⟩ => ⟨S_, .f32⟩
  | .hbm, ⟨43, _⟩ => ⟨S16384x8, .f32⟩
  | .hbm, ⟨44, _⟩ => ⟨S_, .i32⟩
  | .hbm, ⟨45, _⟩ => ⟨S_, .f32⟩
  | .hbm, ⟨46, _⟩ => ⟨S8x4096, .f32⟩
  | .hbm, ⟨47, _⟩ => ⟨S16384x128, .f32⟩
  | .hbm, ⟨48, _⟩ => ⟨S4096x256, .f32⟩
  | .hbm, ⟨49, _⟩ => ⟨S128x16384, .f32⟩
  | .local _ .vmem, ⟨0, _⟩ => ⟨S256x8, .f32⟩
  | .local _ .vmem, ⟨1, _⟩ => ⟨S256x8, .f32⟩
  | .local _ .vmem, ⟨2, _⟩ => ⟨S8x4096, .f32⟩
  | .local _ .vmem, ⟨3, _⟩ => ⟨S256x128, .f32⟩
  | .local _ .vmem, ⟨4, _⟩ => ⟨S256x128, .f32⟩
  | .local _ .vmem, ⟨5, _⟩ => ⟨S4096x256, .f32⟩
  | .local _ .vmem, ⟨6, _⟩ => ⟨S384x256, .f32⟩
  | .local _ .vmem, ⟨7, _⟩ => ⟨S1x256, .f32⟩
  | .local _ .vmem, ⟨8, _⟩ => ⟨S256x128, .f32⟩
  | .local _ .vmem, ⟨9, _⟩ => ⟨S1x128, .f32⟩
  | .local _ .vmem, ⟨10, _⟩ => ⟨S128x256, .f32⟩
  | .local _ .vmem, ⟨11, _⟩ => ⟨S128x256, .f32⟩
  | .local _ .vmem, ⟨12, _⟩ => ⟨S256x4096, .f32⟩
  | .local _ .vmem, ⟨13, _⟩ => ⟨S256x4096, .f32⟩
  | .local _ .vmem, ⟨14, _⟩ => ⟨S256x1, .f32⟩
  | .local _ .vmem, ⟨15, _⟩ => ⟨S256x1, .f32⟩
  | _, _ => ⟨S3x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c : Ref sig .tc := ⟨.hbm, 41, rfl⟩
abbrev main_call0_v0 : Ref sig .tc := ⟨.hbm, 42, rfl⟩
abbrev main_v23 : Ref sig .tc := ⟨.hbm, 43, rfl⟩
abbrev main_c_1 : Ref sig .tc := ⟨.hbm, 44, rfl⟩
abbrev main_call1_v0 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![65], ![false]⟩

def k0_cond3 (i : grid0.Coords) : BitVec 1 :=
  let arg0 : BitVec 32 := BitVec.ofNat 32 (i 0).val
  let c0_i32_8 : BitVec 32 := 0#32
  let v20 : BitVec 1 := Scalar.cmpi .sgt arg0 c0_i32_8
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_9 : BitVec 32 := 1#32
  let v21 : BitVec 1 := Scalar.cmpi .eq v9 c1_i32_9
  let v22 : BitVec 1 := Scalar.andi v20 v21
  let v23 : BitVec 32 := Scalar.extui v22
  let c0_i32_10 : BitVec 32 := 0#32
  let v24 : BitVec 1 := Scalar.cmpi .ne v23 c0_i32_10
  v24

def k0_cond4 (i : grid0.Coords) : BitVec 1 :=
  let arg0 : BitVec 32 := BitVec.ofNat 32 (i 0).val
  let c0_i32_11 : BitVec 32 := 0#32
  let v25 : BitVec 1 := Scalar.cmpi .sgt arg0 c0_i32_11
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_12 : BitVec 32 := 0#32
  let v26 : BitVec 1 := Scalar.cmpi .eq v9 c0_i32_12
  let v27 : BitVec 1 := Scalar.andi v25 v26
  let v28 : BitVec 32 := Scalar.extui v27
  let c0_i32_13 : BitVec 32 := 0#32
  let v29 : BitVec 1 := Scalar.cmpi .ne v28 c0_i32_13
  v29

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "farthest" => some ⊤
  | _ => none
-- ==== ReferenceIdeal.lean ====
abbrev S3x16384 : Shape := ⟨2, ![3, 16384]⟩
abbrev S3x4096 : Shape := ⟨2, ![3, 4096]⟩
abbrev S128x16384 : Shape := ⟨2, ![128, 16384]⟩
abbrev S256x4096 : Shape := ⟨2, ![256, 4096]⟩
abbrev S384x256 : Shape := ⟨2, ![384, 256]⟩
abbrev S256 : Shape := ⟨1, ![256]⟩
abbrev S256x128 : Shape := ⟨2, ![256, 128]⟩
abbrev S128 : Shape := ⟨1, ![128]⟩
abbrev S16384x3 : Shape := ⟨2, ![16384, 3]⟩
abbrev S4096x3 : Shape := ⟨2, ![4096, 3]⟩
abbrev S4096x256 : Shape := ⟨2, ![4096, 256]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S4096 : Shape := ⟨1, ![4096]⟩
abbrev S1x4096 : Shape := ⟨2, ![1, 4096]⟩
abbrev S16384x3x1 : Shape := ⟨3, ![16384, 3, 1]⟩
abbrev S16384x3x256 : Shape := ⟨3, ![16384, 3, 256]⟩
abbrev S16384x256 : Shape := ⟨2, ![16384, 256]⟩
abbrev S16384x128 : Shape := ⟨2, ![16384, 128]⟩
abbrev S16384x384 : Shape := ⟨2, ![16384, 384]⟩
abbrev S1x256 : Shape := ⟨2, ![1, 256]⟩
abbrev S1x128 : Shape := ⟨2, ![1, 128]⟩

abbrev nBuf : Space → Nat
  | .hbm => 116
  | .vmem => 0
  | .smem => 0
  | _ => 0

abbrev bufTy : (tb : Table) → Fin (tcTables nBuf tb) → BufTy
  | .hbm, ⟨0, _⟩ => ⟨S3x16384, .f32⟩
  | .hbm, ⟨1, _⟩ => ⟨S3x4096, .f32⟩
  | .hbm, ⟨2, _⟩ => ⟨S128x16384, .f32⟩
  | .hbm, ⟨3, _⟩ => ⟨S256x4096, .f32⟩
  | .hbm, ⟨4, _⟩ => ⟨S384x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S16384x3, .f32⟩
  | .hbm, ⟨17, _⟩ => ⟨S4096x3, .f32⟩
  | .hbm, ⟨18, _⟩ => ⟨S4096x256, .f32⟩
  | .hbm, ⟨19, _⟩ => ⟨S3x4096, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S16384x3, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S16384x4096, .f32⟩
  | .hbm, ⟨29, _⟩ => ⟨S16384x4096, .f32⟩
  | .hbm, ⟨30, _⟩ => ⟨S4096x3, .f32⟩
  | .hbm, ⟨31, _⟩ => ⟨S_, .f32⟩
  | .hbm, ⟨32, _⟩ => ⟨S4096, .f32⟩
  | .hbm, ⟨33, _⟩ => ⟨S1x4096, .f32⟩
  | .hbm, ⟨34, _⟩ => ⟨S16384x4096, .f32⟩
  | .hbm, ⟨35, _⟩ => ⟨S16384x4096, .f32⟩
  | .hbm, ⟨36, _⟩ => ⟨S16384x4096, .f32⟩
  | .hbm, ⟨37, _⟩ => ⟨S16384x3, .f32⟩
  | .hbm, ⟨38, _⟩ => ⟨S16384x4096, .i32⟩
  | .hbm, ⟨39, _⟩ => ⟨S16384x4096, .f32⟩
  | .hbm, ⟨40, _⟩ => ⟨S16384x4096, .i32⟩
  | .hbm, ⟨41, _⟩ => ⟨S16384x3, .i32⟩
  | .hbm, ⟨42, _⟩ => ⟨S_, .f32⟩
  | .hbm, ⟨43, _⟩ => ⟨S16384x3, .f32⟩
  | .hbm, ⟨44, _⟩ => ⟨S16384x3, .f32⟩
  | .hbm, ⟨45, _⟩ => ⟨S_, .f32⟩
  | .hbm, ⟨46, _⟩ => ⟨S16384x3, .f32⟩
  | .hbm, ⟨47, _⟩ => ⟨S16384x3, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S16384x3, .f32⟩
  | .hbm, ⟨52, _⟩ => ⟨S16384x3, .f32⟩
  | .hbm, ⟨53, _⟩ => ⟨S_, .i32⟩
  | .hbm, ⟨54, _⟩ => ⟨S16384x3, .i32⟩
  | .hbm, ⟨55, _⟩ => ⟨S16384x3, .i1⟩
  | .hbm, ⟨56, _⟩ => ⟨S_, .i32⟩
  | .hbm, ⟨57, _⟩ => ⟨S16384x3, .i32⟩
  | .hbm, ⟨58, _⟩ => ⟨S16384x3, .i32⟩
  | .hbm, ⟨59, _⟩ => ⟨S16384x3, .i32⟩
  | .hbm, ⟨60, _⟩ => ⟨S16384x3x1, .i32⟩
  | .hbm, ⟨61, _⟩ => ⟨S16384x3x256, .f32⟩
  | .hbm, ⟨62, _⟩ => ⟨S16384x3x1, .f32⟩
  | .hbm, ⟨63, _⟩ => ⟨S16384x3x256, .f32⟩
  | .hbm, ⟨64, _⟩ => ⟨S16384x3x256, .f32⟩
  | .hbm, ⟨65, _⟩ => ⟨S_, .f32⟩
  | .hbm, ⟨66, _⟩ => ⟨S16384x256, .f32⟩
  | .hbm, ⟨67, _⟩ => ⟨S16384x128, .f32⟩
  | .hbm, ⟨68, _⟩ => ⟨S16384x384, .f32⟩
  | .hbm, ⟨69, _⟩ => ⟨S16384x256, .f32⟩
  | .hbm, ⟨70, _⟩ => ⟨S1x256, .f32⟩
  | .hbm, ⟨71, _⟩ => ⟨S16384x256, .f32⟩
  | .hbm, ⟨72, _⟩ => ⟨S16384x256, .f32⟩
  | .hbm, ⟨73, _⟩ => ⟨S1x256, .f32⟩
  | .hbm, ⟨74, _⟩ => ⟨S16384x256, .f32⟩
  | .hbm, ⟨75, _⟩ => ⟨S16384x256, .f32⟩
  | .hbm, ⟨76, _⟩ => ⟨S_, .f32⟩
  | .hbm, ⟨77, _⟩ => ⟨S256, .f32⟩
  | .hbm, ⟨78, _⟩ => ⟨S256, .f32⟩
  | .hbm, ⟨79, _⟩ => ⟨S256, .f32⟩
  | .hbm, ⟨80, _⟩ => ⟨S1x256, .f32⟩
  | .hbm, ⟨81, _⟩ => ⟨S16384x256, .f32⟩
  | .hbm, ⟨82, _⟩ => ⟨S16384x256, .f32⟩
  | .hbm, ⟨83, _⟩ => ⟨S1x256, .f32⟩
  | .hbm, ⟨84, _⟩ => ⟨S16384x256, .f32⟩
  | .hbm, ⟨85, _⟩ => ⟨S16384x256, .f32⟩
  | .hbm, ⟨86, _⟩ => ⟨S1x256, .f32⟩
  | .hbm, ⟨87, _⟩ => ⟨S16384x256, .f32⟩
  | .hbm, ⟨88, _⟩ => ⟨S16384x256, .f32⟩
  | .hbm, ⟨89, _⟩ => ⟨S_, .f32⟩
  | .hbm, ⟨90, _⟩ => ⟨S16384x256, .f32⟩
  | .hbm, ⟨91, _⟩ => ⟨S16384x256, .f32⟩
  | .hbm, ⟨92, _⟩ => ⟨S16384x128, .f32⟩
  | .hbm, ⟨93, _⟩ => ⟨S1x128, .f32⟩
  | .hbm, ⟨94, _⟩ => ⟨S16384x128, .f32⟩
  | .hbm, ⟨95, _⟩ => ⟨S16384x128, .f32⟩
  | .hbm, ⟨96, _⟩ => ⟨S1x128, .f32⟩
  | .hbm, ⟨97, _⟩ => ⟨S16384x128, .f32⟩
  | .hbm, ⟨98, _⟩ => ⟨S16384x128, .f32⟩
  | .hbm, ⟨99, _⟩ => ⟨S_, .f32⟩
  | .hbm, ⟨100, _⟩ => ⟨S128, .f32⟩
  | .hbm, ⟨101, _⟩ => ⟨S128, .f32⟩
  | .hbm, ⟨102, _⟩ => ⟨S128, .f32⟩
  | .hbm, ⟨103, _⟩ => ⟨S1x128, .f32⟩
  | .hbm, ⟨104, _⟩ => ⟨S16384x128, .f32⟩
  | .hbm, ⟨105, _⟩ => ⟨S16384x128, .f32⟩
  | .hbm, ⟨106, _⟩ => ⟨S1x128, .f32⟩
  | .hbm, ⟨107, _⟩ => ⟨S16384x128, .f32⟩
  | .hbm, ⟨108, _⟩ => ⟨S16384x128, .f32⟩
  | .hbm, ⟨109, _⟩ => ⟨S1x128, .f32⟩
  | .hbm, ⟨110, _⟩ => ⟨S16384x128, .f32⟩
  | .hbm, ⟨111, _⟩ => ⟨S16384x128, .f32⟩
  | .hbm, ⟨112, _⟩ => ⟨S_, .f32⟩
  | .hbm, ⟨113, _⟩ => ⟨S16384x128, .f32⟩
  | .hbm, ⟨114, _⟩ => ⟨S16384x128, .f32⟩
  | .hbm, ⟨115, _⟩ => ⟨S128x16384, .f32⟩
  | _, _ => ⟨S3x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call1_v0 : Ref sig .tc := ⟨.hbm, 38, rfl⟩
abbrev main_call1_v1_0 : Ref sig .tc := ⟨.hbm, 39, rfl⟩
abbrev main_v19 : Ref sig .tc := ⟨.hbm, 40, rfl⟩
abbrev main_v20 : Ref sig .tc := ⟨.hbm, 41, rfl⟩
abbrev main_cst_2 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c : Ref sig .tc := ⟨.hbm, 53, rfl⟩
abbrev main_v29 : Ref sig .tc := ⟨.hbm, 54, rfl⟩
abbrev main_v30 : Ref sig .tc := ⟨.hbm, 55, rfl⟩
abbrev main_c_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_6 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_call2_cst : Ref sig .tc := ⟨.hbm, 89, rfl⟩
abbrev main_call2_v0 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_8 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_call3_cst : Ref sig .tc := ⟨.hbm, 112, rfl⟩
abbrev main_call3_v0 : Ref sig .tc := ⟨.hbm, 113, rfl⟩
abbrev main_v81 : Ref sig .tc := ⟨.hbm, 114, rfl⟩
abbrev main_v82 : Ref sig .tc := ⟨.hbm, 115, rfl⟩

abbrev nD : Nat := 1
abbrev τ : Topo := Topo.v7x

variable {F : FTy → Type} [FloatOps F]
-- ==== Proof.BodyIdeal.lean ====
/-
  The kernel body, run once at each of its four kinds of grid point.

  A point produces the distance block of its own query tile into the scratch pair of its parity (points before 64),
  and consumes the scratch pair the previous point filled (points after 0). `consume` is what a consuming point
  stores, as a function of the scratch contents and of the blocks it loads; both parities store it.
-/
module

public import proofs.«01_k».proof.Proof.Gen.KernelIdeal.Frame
public import proofs.«01_k».proof.Proof.Gen.KernelIdeal.Skeleton
public import Idealize.ShloMosaic.Lib.LaneScatter.Tiles

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What a consuming point computes -/

/-- Lanes `[128 k, 128 k + 128)` of a block of 4096 lanes, starting at lane `o`. -/
abbrev chunkAt (mm : Vec F S256x4096 .f32) (o : ℕ) (h : ∀ a, (![0, o] : Fin 2 → ℕ) a + S256x128.size a ≤ S256x4096.size a) :
    Vec F S256x128 .f32 := View.ld mm (Rect.unit (s := S256x4096) ![0, o] S256x128.size h)

/-- The lanes' running three smallest, after the first 31 chunks, and the last chunk's distances. -/
def net (mm : Vec F S256x4096 .f32) (x2 : Vec F S8x4096 .f32) : FVec F S256x128 .f32 × FVec F S256x128 .f32 × FVec F S256x128 .f32 × FVec F S256x128 .f32 :=
  let v34 := k0_pay7 x2
  let v69 := k0_pay23 x2 (chunkAt mm 0 inb_S256x4096_S256x128_0_0) (chunkAt mm 128 inb_S256x4096_S256x128_0_128) (chunkAt mm 256 inb_S256x4096_S256x128_0_256) (chunkAt mm 384 inb_S256x4096_S256x128_0_384)
  let v71 := k0_pay24 x2 (chunkAt mm 0 inb_S256x4096_S256x128_0_0) (chunkAt mm 128 inb_S256x4096_S256x128_0_128) (chunkAt mm 256 inb_S256x4096_S256x128_0_256) (chunkAt mm 384 inb_S256x4096_S256x128_0_384)
  let v72 := k0_pay25 x2 (chunkAt mm 0 inb_S256x4096_S256x128_0_0) (chunkAt mm 128 inb_S256x4096_S256x128_0_128) (chunkAt mm 256 inb_S256x4096_S256x128_0_256) (chunkAt mm 384 inb_S256x4096_S256x128_0_384)
  let v116 := k0_pay45 v34 v69 v71 (chunkAt mm 512 inb_S256x4096_S256x128_0_512) (chunkAt mm 640 inb_S256x4096_S256x128_0_640) (chunkAt mm 768 inb_S256x4096_S256x128_0_768) (chunkAt mm 896 inb_S256x4096_S256x128_0_896) (chunkAt mm 1024 inb_S256x4096_S256x128_0_1024)
  let v117 := k0_pay46 v34 v69 v71 v72 (chunkAt mm 512 inb_S256x4096_S256x128_0_512) (chunkAt mm 640 inb_S256x4096_S256x128_0_640) (chunkAt mm 768 inb_S256x4096_S256x128_0_768) (chunkAt mm 896 inb_S256x4096_S256x128_0_896) (chunkAt mm 1024 inb_S256x4096_S256x128_0_1024)
  let v122 := k0_pay48 v34 v69 (chunkAt mm 512 inb_S256x4096_S256x128_0_512) (chunkAt mm 640 inb_S256x4096_S256x128_0_640) (chunkAt mm 768 inb_S256x4096_S256x128_0_768) (chunkAt mm 896 inb_S256x4096_S256x128_0_896) (chunkAt mm 1024 inb_S256x4096_S256x128_0_1024) (chunkAt mm 1152 inb_S256x4096_S256x128_0_1152)
  let v123 := k0_pay49 v34 v69 (chunkAt mm 512 inb_S256x4096_S256x128_0_512) (chunkAt mm 640 inb_S256x4096_S256x128_0_640) (chunkAt mm 768 inb_S256x4096_S256x128_0_768) (chunkAt mm 896 inb_S256x4096_S256x128_0_896) (chunkAt mm 1024 inb_S256x4096_S256x128_0_1024) (chunkAt mm 1152 inb_S256x4096_S256x128_0_1152)
  let v168 := k0_pay69 v34 v123 (chunkAt mm 1280 inb_S256x4096_S256x128_0_1280) (chunkAt mm 1408 inb_S256x4096_S256x128_0_1408) (chunkAt mm 1536 inb_S256x4096_S256x128_0_1536) (chunkAt mm 1664 inb_S256x4096_S256x128_0_1664) (chunkAt mm 1792 inb_S256x4096_S256x128_0_1792)
  let v170 := k0_pay70 v34 v116 v122 v123 (chunkAt mm 1280 inb_S256x4096_S256x128_0_1280) (chunkAt mm 1408 inb_S256x4096_S256x128_0_1408) (chunkAt mm 1536 inb_S256x4096_S256x128_0_1536) (chunkAt mm 1664 inb_S256x4096_S256x128_0_1664) (chunkAt mm 1792 inb_S256x4096_S256x128_0_1792)
  let v171 := k0_pay71 v34 v116 v117 v122 v123 (chunkAt mm 1280 inb_S256x4096_S256x128_0_1280) (chunkAt mm 1408 inb_S256x4096_S256x128_0_1408) (chunkAt mm 1536 inb_S256x4096_S256x128_0_1536) (chunkAt mm 1664 inb_S256x4096_S256x128_0_1664) (chunkAt mm 1792 inb_S256x4096_S256x128_0_1792)
  let v213 := k0_pay90 v34 v168 (chunkAt mm 1920 inb_S256x4096_S256x128_0_1920) (chunkAt mm 2048 inb_S256x4096_S256x128_0_2048) (chunkAt mm 2176 inb_S256x4096_S256x128_0_2176) (chunkAt mm 2304 inb_S256x4096_S256x128_0_2304) (chunkAt mm 2432 inb_S256x4096_S256x128_0_2432)
  let v215 := k0_pay91 v34 v168 v170 (chunkAt mm 1920 inb_S256x4096_S256x128_0_1920) (chunkAt mm 2048 inb_S256x4096_S256x128_0_2048) (chunkAt mm 2176 inb_S256x4096_S256x128_0_2176) (chunkAt mm 2304 inb_S256x4096_S256x128_0_2304) (chunkAt mm 2432 inb_S256x4096_S256x128_0_2432)
  let v216 := k0_pay92 v34 v168 v170 v171 (chunkAt mm 1920 inb_S256x4096_S256x128_0_1920) (chunkAt mm 2048 inb_S256x4096_S256x128_0_2048) (chunkAt mm 2176 inb_S256x4096_S256x128_0_2176) (chunkAt mm 2304 inb_S256x4096_S256x128_0_2304) (chunkAt mm 2432 inb_S256x4096_S256x128_0_2432)
  let v220 := k0_pay93 v34 (chunkAt mm 2560 inb_S256x4096_S256x128_0_2560)
  let v221 := k0_pay94 v34 v168 (chunkAt mm 1920 inb_S256x4096_S256x128_0_1920) (chunkAt mm 2048 inb_S256x4096_S256x128_0_2048) (chunkAt mm 2176 inb_S256x4096_S256x128_0_2176) (chunkAt mm 2304 inb_S256x4096_S256x128_0_2304) (chunkAt mm 2432 inb_S256x4096_S256x128_0_2432) (chunkAt mm 2560 inb_S256x4096_S256x128_0_2560)
  let v267 := k0_pay115 v34 v213 v220 (chunkAt mm 2688 inb_S256x4096_S256x128_0_2688) (chunkAt mm 2816 inb_S256x4096_S256x128_0_2816) (chunkAt mm 2944 inb_S256x4096_S256x128_0_2944) (chunkAt mm 3072 inb_S256x4096_S256x128_0_3072) (chunkAt mm 3200 inb_S256x4096_S256x128_0_3200)
  let v269 := k0_pay116 v34 v213 v215 v220 v221 (chunkAt mm 2688 inb_S256x4096_S256x128_0_2688) (chunkAt mm 2816 inb_S256x4096_S256x128_0_2816) (chunkAt mm 2944 inb_S256x4096_S256x128_0_2944) (chunkAt mm 3072 inb_S256x4096_S256x128_0_3072) (chunkAt mm 3200 inb_S256x4096_S256x128_0_3200)
  let v270 := k0_pay117 v34 v213 v215 v216 v220 v221 (chunkAt mm 2688 inb_S256x4096_S256x128_0_2688) (chunkAt mm 2816 inb_S256x4096_S256x128_0_2816) (chunkAt mm 2944 inb_S256x4096_S256x128_0_2944) (chunkAt mm 3072 inb_S256x4096_S256x128_0_3072) (chunkAt mm 3200 inb_S256x4096_S256x128_0_3200)
  let v312 := k0_pay136 v34 v267 (chunkAt mm 3328 inb_S256x4096_S256x128_0_3328) (chunkAt mm 3456 inb_S256x4096_S256x128_0_3456) (chunkAt mm 3584 inb_S256x4096_S256x128_0_3584) (chunkAt mm 3712 inb_S256x4096_S256x128_0_3712) (chunkAt mm 3840 inb_S256x4096_S256x128_0_3840)
  let v314 := k0_pay137 v34 v267 v269 (chunkAt mm 3328 inb_S256x4096_S256x128_0_3328) (chunkAt mm 3456 inb_S256x4096_S256x128_0_3456) (chunkAt mm 3584 inb_S256x4096_S256x128_0_3584) (chunkAt mm 3712 inb_S256x4096_S256x128_0_3712) (chunkAt mm 3840 inb_S256x4096_S256x128_0_3840)
  let v315 := k0_pay138 v34 v267 v269 v270 (chunkAt mm 3328 inb_S256x4096_S256x128_0_3328) (chunkAt mm 3456 inb_S256x4096_S256x128_0_3456) (chunkAt mm 3584 inb_S256x4096_S256x128_0_3584) (chunkAt mm 3712 inb_S256x4096_S256x128_0_3712) (chunkAt mm 3840 inb_S256x4096_S256x128_0_3840)
  let v319 := k0_pay139 v34 (chunkAt mm 3968 inb_S256x4096_S256x128_0_3968)
  (v312, v314, v315, v319)

/-- What a consuming point stores into its output block. -/
def consume (mm : Vec F S256x4096 .f32) (n1 : Vec F S256x1 .f32) (x2 : Vec F S8x4096 .f32) (p1b : Vec F S256x128 .f32)
    (p2t : Vec F S4096x256 .f32) (w0 : Vec F S384x256 .f32) (b0 : Vec F S1x256 .f32) (w1 : Vec F S256x128 .f32)
    (b1 : Vec F S1x128 .f32) : Vec F S128x256 .f32 :=
  let v34 := k0_pay7 x2
  let v312 := (net mm x2).1
  let v314 := (net mm x2).2.1
  let v315 := (net mm x2).2.2.1
  let v319 := (net mm x2).2.2.2
  let v344 := k0_pay145 n1 v312 v314 v315 v319
  let v349 := k0_pay146 n1 v312 v314 v315 v319
  let v354 := k0_pay147 n1 v312 v314 v315 v319
  let v359 := k0_pay149 v34 v312 v314 v315 v319 mm
  let v361 := k0_pay150 v34 v312 v314 v315 v319 mm
  let v363 := k0_pay151 v34 v312 v314 v315 v319 mm
  let v365 := k0_pay152 n1 v312 v314 v315 v319
  k0_pay153 v344 v349 v354 v359 v361 v363 (Scalar.ofBits .f32 0x00000000#32) v365 p2t p1b w0 b0 w1 b1

/-! ## Whole loads and whole stores -/

/-- Two zero offsets. -/
theorem zeros2 : ∀ a, (![0, 0] : Fin 2 → ℕ) a = 0 := by decide

/-- A load of the whole of a two-axis buffer reads its contents. -/
theorem readAt_all {κ : Kind} {sp : Space} {e : EltTy} {r n : ℕ} (v : View sig κ sp ⟨2, ![r, n]⟩ e)
    (f : v.ty.Contents (Elt F)) (inb : ∀ a, (![0, 0] : Fin 2 → ℕ) a + (![r, n] : Fin 2 → ℕ) a ≤ (![r, n] : Fin 2 → ℕ) a) :
    v.readAt (Elt F) (Rect.unit (s := ⟨2, ![r, n]⟩) ![0, 0] ![r, n] inb).toLoadRect f = v.read (Elt F) f :=
  View.ld_unit_zero (funext zeros2) inb _

/-! The odd points' payloads are the even points' ones: the two branches are the same text. -/

/-- The two branches' payloads agree. -/
theorem pay5_eq : k0_pay5 (F := F) = k0_pay2 := rfl
theorem pay6_eq : k0_pay6 (F := F) = k0_pay3 := rfl
theorem pay154_eq : k0_pay154 (F := F) = k0_pay7 := rfl
theorem pay170_eq : k0_pay170 (F := F) = k0_pay23 := rfl
theorem pay171_eq : k0_pay171 (F := F) = k0_pay24 := rfl
theorem pay172_eq : k0_pay172 (F := F) = k0_pay25 := rfl
theorem pay192_eq : k0_pay192 (F := F) = k0_pay45 := rfl
theorem pay193_eq : k0_pay193 (F := F) = k0_pay46 := rfl
theorem pay195_eq : k0_pay195 (F := F) = k0_pay48 := rfl
theorem pay196_eq : k0_pay196 (F := F) = k0_pay49 := rfl
theorem pay216_eq : k0_pay216 (F := F) = k0_pay69 := rfl
theorem pay217_eq : k0_pay217 (F := F) = k0_pay70 := rfl
theorem pay218_eq : k0_pay218 (F := F) = k0_pay71 := rfl
theorem pay237_eq : k0_pay237 (F := F) = k0_pay90 := rfl
theorem pay238_eq : k0_pay238 (F := F) = k0_pay91 := rfl
theorem pay239_eq : k0_pay239 (F := F) = k0_pay92 := rfl
theorem pay240_eq : k0_pay240 (F := F) = k0_pay93 := rfl
theorem pay241_eq : k0_pay241 (F := F) = k0_pay94 := rfl
theorem pay262_eq : k0_pay262 (F := F) = k0_pay115 := rfl
theorem pay263_eq : k0_pay263 (F := F) = k0_pay116 := rfl
theorem pay264_eq : k0_pay264 (F := F) = k0_pay117 := rfl
theorem pay283_eq : k0_pay283 (F := F) = k0_pay136 := rfl
theorem pay284_eq : k0_pay284 (F := F) = k0_pay137 := rfl
theorem pay285_eq : k0_pay285 (F := F) = k0_pay138 := rfl
theorem pay286_eq : k0_pay286 (F := F) = k0_pay139 := rfl
theorem pay292_eq : k0_pay292 (F := F) = k0_pay145 := rfl
theorem pay293_eq : k0_pay293 (F := F) = k0_pay146 := rfl
theorem pay294_eq : k0_pay294 (F := F) = k0_pay147 := rfl
theorem pay296_eq : k0_pay296 (F := F) = k0_pay149 := rfl
theorem pay297_eq : k0_pay297 (F := F) = k0_pay150 := rfl
theorem pay298_eq : k0_pay298 (F := F) = k0_pay151 := rfl
theorem pay299_eq : k0_pay299 (F := F) = k0_pay152 := rfl
theorem pay300_eq : k0_pay300 (F := F) = k0_pay153 := rfl

/-! ## The conditions of the two producing branches -/

/-- The point produces into the even scratch pair: before 64 and even. -/
def cond1 (i : grid0.Coords) : BitVec 1 :=
  let arg0 : BitVec 32 := BitVec.ofNat 32 (i 0).val
  let v0 : BitVec 1 := Scalar.cmpi .eq 2#32 0#32
  let v1 : BitVec 32 := Scalar.select v0 1#32 2#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  let v10 : BitVec 1 := Scalar.cmpi .slt arg0 64#32
  let v11 : BitVec 1 := Scalar.cmpi .eq v9 0#32
  let v12 : BitVec 1 := Scalar.andi v10 v11
  let v13 : BitVec 32 := Scalar.extui v12
  let v14 : BitVec 1 := Scalar.cmpi .ne v13 0#32
  v14

/-- The point produces into the odd scratch pair: before 64 and odd. -/
def cond2 (i : grid0.Coords) : BitVec 1 :=
  let arg0 : BitVec 32 := BitVec.ofNat 32 (i 0).val
  let v0 : BitVec 1 := Scalar.cmpi .eq 2#32 0#32
  let v1 : BitVec 32 := Scalar.select v0 1#32 2#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  let v15 : BitVec 1 := Scalar.cmpi .slt arg0 64#32
  let v16 : BitVec 1 := Scalar.cmpi .eq v9 1#32
  let v17 : BitVec 1 := Scalar.andi v15 v16
  let v18 : BitVec 32 := Scalar.extui v17
  let v19 : BitVec 1 := Scalar.cmpi .ne v18 0#32
  v19

/-! ## The body at each kind of point -/

/-- What the body holds: its nine staged blocks and the two scratch pairs, at the given contents. -/
abbrev held (c : Dev nD)
    (M1 : Memref sig .tc .vmem S256x8 .f32)
    (M2 : Memref sig .tc .vmem S8x4096 .f32)
    (M3 : Memref sig .tc .vmem S256x128 .f32)
    (M4 : Memref sig .tc .vmem S4096x256 .f32)
    (M5 : Memref sig .tc .vmem S384x256 .f32)
    (M6 : Memref sig .tc .vmem S1x256 .f32)
    (M7 : Memref sig .tc .vmem S256x128 .f32)
    (M8 : Memref sig .tc .vmem S1x128 .f32)
    (M9 : Memref sig .tc .vmem S128x256 .f32)
    (M10 : Memref sig .tc .vmem S256x4096 .f32)
    (M11 : Memref sig .tc .vmem S256x4096 .f32)
    (M12 : Memref sig .tc .vmem S256x1 .f32)
    (M13 : Memref sig .tc .vmem S256x1 .f32)
    (x1 : Vec F S256x8 .f32)
    (x2 : Vec F S8x4096 .f32)
    (x3 : Vec F S256x128 .f32)
    (x4 : Vec F S4096x256 .f32)
    (x5 : Vec F S384x256 .f32)
    (x6 : Vec F S1x256 .f32)
    (x7 : Vec F S256x128 .f32)
    (x8 : Vec F S1x128 .f32)
    (x9 : Vec F S128x256 .f32)
    (x10 : Vec F S256x4096 .f32)
    (x11 : Vec F S256x4096 .f32)
    (x12 : Vec F S256x1 .f32)
    (x13 : Vec F S256x1 .f32)
    : sProp 𝕄 :=
  iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11 ∗ owns (c : Thread nD τ) M12 fullShare x12 ∗ owns (c : Thread nD τ) M13 fullShare x13)

section Body

variable (c : Dev nD) (E : Set ℕ) (i : grid0.Coords)
  (M1 : Memref sig .tc .vmem S256x8 .f32) (h1 : M1.IsWhole)
  (M2 : Memref sig .tc .vmem S8x4096 .f32) (h2 : M2.IsWhole)
  (M3 : Memref sig .tc .vmem S256x128 .f32) (h3 : M3.IsWhole)
  (M4 : Memref sig .tc .vmem S4096x256 .f32) (h4 : M4.IsWhole)
  (M5 : Memref sig .tc .vmem S384x256 .f32) (h5 : M5.IsWhole)
  (M6 : Memref sig .tc .vmem S1x256 .f32) (h6 : M6.IsWhole)
  (M7 : Memref sig .tc .vmem S256x128 .f32) (h7 : M7.IsWhole)
  (M8 : Memref sig .tc .vmem S1x128 .f32) (h8 : M8.IsWhole)
  (M9 : Memref sig .tc .vmem S128x256 .f32) (h9 : M9.IsWhole)
  (M10 : Memref sig .tc .vmem S256x4096 .f32) (h10 : M10.IsWhole)
  (M11 : Memref sig .tc .vmem S256x4096 .f32) (h11 : M11.IsWhole)
  (M12 : Memref sig .tc .vmem S256x1 .f32) (h12 : M12.IsWhole)
  (M13 : Memref sig .tc .vmem S256x1 .f32) (h13 : M13.IsWhole)
  (x1 : Vec F S256x8 .f32)
  (x2 : Vec F S8x4096 .f32)
  (x3 : Vec F S256x128 .f32)
  (x4 : Vec F S4096x256 .f32)
  (x5 : Vec F S384x256 .f32)
  (x6 : Vec F S1x256 .f32)
  (x7 : Vec F S256x128 .f32)
  (x8 : Vec F S1x128 .f32)
  (x9 : Vec F S128x256 .f32)
  (x10 : Vec F S256x4096 .f32)
  (x11 : Vec F S256x4096 .f32)
  (x12 : Vec F S256x1 .f32)
  (x13 : Vec F S256x1 .f32)

/-- The first point only produces. -/
theorem body_first (hc1 : cond1 i = 1#1) (hc2 : ¬ cond2 i = 1#1) (hc3 : ¬ k0_cond3 i = 1#1) (hc4 : ¬ k0_cond4 i = 1#1)
    (K : PUnit → sProp 𝕄) :
    iprop(held c M1 M2 M3 M4 M5 M6 M7 M8 M9 M10 M11 M12 M13 x1 x2 x3 x4 x5 x6 x7 x8 x9 x10 x11 x12 x13 ∗ (held c M1 M2 M3 M4 M5 M6 M7 M8 M9 M10 M11 M12 M13 x1 x2 x3 x4 x5 x6 x7 x8 x9 (k0_pay2 x1 x2) x11 (k0_pay3 x1) x13 -∗ K ⟨⟩))
      ⊢ wp frame (wpE (defs₀ (F := F)) Variants.none c none) E (cc0__fp_body i M1 h1 M2 h2 M3 h3 M4 h4 M5 h5 M6 h6 M7 h7 M8 h8 M9 h9 M10 h10 M11 h11 M12 h12 M13 h13) K := by
  rw [cc0__fp_body_eq_skeleton]; unfold cc0__fp_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton]
  unfold cond1 at hc1; unfold cond2 at hc2
  simp only [held, owns]
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%f10, %hf10, H10⟩, ⟨%f11, %hf11, H11⟩, ⟨%f12, %hf12, H12⟩, ⟨%f13, %hf13, H13⟩⟩, Hk⟩
  subst hf1 hf2 hf3 hf4 hf5 hf6 hf7 hf8 hf9 hf10 hf11 hf12 hf13
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr; swap; iexact H10; ipureintro
    refine (LaneScatter.read_whole_store _ _ zeros2 _ _).trans ?_
    try sl_unfold_run_names
    simp only [readAt_all, pay5_eq, pay6_eq, pay154_eq, pay170_eq, pay171_eq, pay172_eq, pay192_eq, pay193_eq, pay195_eq, pay196_eq, pay216_eq, pay217_eq, pay218_eq, pay237_eq, pay238_eq, pay239_eq, pay240_eq, pay241_eq, pay262_eq, pay263_eq, pay264_eq, pay283_eq, pay284_eq, pay285_eq, pay286_eq, pay292_eq, pay293_eq, pay294_eq, pay296_eq, pay297_eq, pay298_eq, pay299_eq, pay300_eq] <;> rfl
  isplitl [H11]
  · iexists f11; isplitr; · ipureintro; rfl
    iexact H11
  isplitl [H12]
  · iexists _; isplitr; swap; iexact H12; ipureintro
    refine (LaneScatter.read_whole_store _ _ zeros2 _ _).trans ?_
    try sl_unfold_run_names
    simp only [readAt_all, pay5_eq, pay6_eq, pay154_eq, pay170_eq, pay171_eq, pay172_eq, pay192_eq, pay193_eq, pay195_eq, pay196_eq, pay216_eq, pay217_eq, pay218_eq, pay237_eq, pay238_eq, pay239_eq, pay240_eq, pay241_eq, pay262_eq, pay263_eq, pay264_eq, pay283_eq, pay284_eq, pay285_eq, pay286_eq, pay292_eq, pay293_eq, pay294_eq, pay296_eq, pay297_eq, pay298_eq, pay299_eq, pay300_eq] <;> rfl
  · iexists f13; isplitr; · ipureintro; rfl
    iexact H13

/-- An odd point produces into the odd pair and consumes the even one. -/
theorem body_odd (hc1 : ¬ cond1 i = 1#1) (hc2 : cond2 i = 1#1) (hc3 : k0_cond3 i = 1#1) (hc4 : ¬ k0_cond4 i = 1#1)
    (K : PUnit → sProp 𝕄) :
    iprop(held c M1 M2 M3 M4 M5 M6 M7 M8 M9 M10 M11 M12 M13 x1 x2 x3 x4 x5 x6 x7 x8 x9 x10 x11 x12 x13 ∗ (held c M1 M2 M3 M4 M5 M6 M7 M8 M9 M10 M11 M12 M13 x1 x2 x3 x4 x5 x6 x7 x8 (consume x10 x12 x2 x3 x4 x5 x6 x7 x8) x10 (k0_pay2 x1 x2) x12 (k0_pay3 x1) -∗ K ⟨⟩))
      ⊢ wp frame (wpE (defs₀ (F := F)) Variants.none c none) E (cc0__fp_body i M1 h1 M2 h2 M3 h3 M4 h4 M5 h5 M6 h6 M7 h7 M8 h8 M9 h9 M10 h10 M11 h11 M12 h12 M13 h13) K := by
  rw [cc0__fp_body_eq_skeleton]; unfold cc0__fp_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton]
  unfold cond1 at hc1; unfold cond2 at hc2
  simp only [held, owns]
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%f10, %hf10, H10⟩, ⟨%f11, %hf11, H11⟩, ⟨%f12, %hf12, H12⟩, ⟨%f13, %hf13, H13⟩⟩, Hk⟩
  subst hf1 hf2 hf3 hf4 hf5 hf6 hf7 hf8 hf9 hf10 hf11 hf12 hf13
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr; swap; iexact H9; ipureintro
    refine (LaneScatter.read_whole_store _ _ zeros2 _ _).trans ?_
    try sl_unfold_run_names
    simp only [readAt_all, pay5_eq, pay6_eq, pay154_eq, pay170_eq, pay171_eq, pay172_eq, pay192_eq, pay193_eq, pay195_eq, pay196_eq, pay216_eq, pay217_eq, pay218_eq, pay237_eq, pay238_eq, pay239_eq, pay240_eq, pay241_eq, pay262_eq, pay263_eq, pay264_eq, pay283_eq, pay284_eq, pay285_eq, pay286_eq, pay292_eq, pay293_eq, pay294_eq, pay296_eq, pay297_eq, pay298_eq, pay299_eq, pay300_eq] <;> rfl
  isplitl [H10]
  · iexists f10; isplitr; · ipureintro; rfl
    iexact H10
  isplitl [H11]
  · iexists _; isplitr; swap; iexact H11; ipureintro
    refine (LaneScatter.read_whole_store _ _ zeros2 _ _).trans ?_
    try sl_unfold_run_names
    simp only [readAt_all, pay5_eq, pay6_eq, pay154_eq, pay170_eq, pay171_eq, pay172_eq, pay192_eq, pay193_eq, pay195_eq, pay196_eq, pay216_eq, pay217_eq, pay218_eq, pay237_eq, pay238_eq, pay239_eq, pay240_eq, pay241_eq, pay262_eq, pay263_eq, pay264_eq, pay283_eq, pay284_eq, pay285_eq, pay286_eq, pay292_eq, pay293_eq, pay294_eq, pay296_eq, pay297_eq, pay298_eq, pay299_eq, pay300_eq] <;> rfl
  isplitl [H12]
  · iexists f12; isplitr; · ipureintro; rfl
    iexact H12
  · iexists _; isplitr; swap; iexact H13; ipureintro
    refine (LaneScatter.read_whole_store _ _ zeros2 _ _).trans ?_
    try sl_unfold_run_names
    simp only [readAt_all, pay5_eq, pay6_eq, pay154_eq, pay170_eq, pay171_eq, pay172_eq, pay192_eq, pay193_eq, pay195_eq, pay196_eq, pay216_eq, pay217_eq, pay218_eq, pay237_eq, pay238_eq, pay239_eq, pay240_eq, pay241_eq, pay262_eq, pay263_eq, pay264_eq, pay283_eq, pay284_eq, pay285_eq, pay286_eq, pay292_eq, pay293_eq, pay294_eq, pay296_eq, pay297_eq, pay298_eq, pay299_eq, pay300_eq] <;> rfl

/-- An even point after the first and before the last produces into the even pair and consumes the odd one. -/
theorem body_even (hc1 : cond1 i = 1#1) (hc2 : ¬ cond2 i = 1#1) (hc3 : ¬ k0_cond3 i = 1#1) (hc4 : k0_cond4 i = 1#1)
    (K : PUnit → sProp 𝕄) :
    iprop(held c M1 M2 M3 M4 M5 M6 M7 M8 M9 M10 M11 M12 M13 x1 x2 x3 x4 x5 x6 x7 x8 x9 x10 x11 x12 x13 ∗ (held c M1 M2 M3 M4 M5 M6 M7 M8 M9 M10 M11 M12 M13 x1 x2 x3 x4 x5 x6 x7 x8 (consume x11 x13 x2 x3 x4 x5 x6 x7 x8) (k0_pay2 x1 x2) x11 (k0_pay3 x1) x13 -∗ K ⟨⟩))
      ⊢ wp frame (wpE (defs₀ (F := F)) Variants.none c none) E (cc0__fp_body i M1 h1 M2 h2 M3 h3 M4 h4 M5 h5 M6 h6 M7 h7 M8 h8 M9 h9 M10 h10 M11 h11 M12 h12 M13 h13) K := by
  rw [cc0__fp_body_eq_skeleton]; unfold cc0__fp_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton]
  unfold cond1 at hc1; unfold cond2 at hc2
  simp only [held, owns]
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%f10, %hf10, H10⟩, ⟨%f11, %hf11, H11⟩, ⟨%f12, %hf12, H12⟩, ⟨%f13, %hf13, H13⟩⟩, Hk⟩
  subst hf1 hf2 hf3 hf4 hf5 hf6 hf7 hf8 hf9 hf10 hf11 hf12 hf13
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr; swap; iexact H9; ipureintro
    refine (LaneScatter.read_whole_store _ _ zeros2 _ _).trans ?_
    try sl_unfold_run_names
    simp only [readAt_all, pay5_eq, pay6_eq, pay154_eq, pay170_eq, pay171_eq, pay172_eq, pay192_eq, pay193_eq, pay195_eq, pay196_eq, pay216_eq, pay217_eq, pay218_eq, pay237_eq, pay238_eq, pay239_eq, pay240_eq, pay241_eq, pay262_eq, pay263_eq, pay264_eq, pay283_eq, pay284_eq, pay285_eq, pay286_eq, pay292_eq, pay293_eq, pay294_eq, pay296_eq, pay297_eq, pay298_eq, pay299_eq, pay300_eq] <;> rfl
  isplitl [H10]
  · iexists _; isplitr; swap; iexact H10; ipureintro
    refine (LaneScatter.read_whole_store _ _ zeros2 _ _).trans ?_
    try sl_unfold_run_names
    simp only [readAt_all, pay5_eq, pay6_eq, pay154_eq, pay170_eq, pay171_eq, pay172_eq, pay192_eq, pay193_eq, pay195_eq, pay196_eq, pay216_eq, pay217_eq, pay218_eq, pay237_eq, pay238_eq, pay239_eq, pay240_eq, pay241_eq, pay262_eq, pay263_eq, pay264_eq, pay283_eq, pay284_eq, pay285_eq, pay286_eq, pay292_eq, pay293_eq, pay294_eq, pay296_eq, pay297_eq, pay298_eq, pay299_eq, pay300_eq] <;> rfl
  isplitl [H11]
  · iexists f11; isplitr; · ipureintro; rfl
    iexact H11
  isplitl [H12]
  · iexists _; isplitr; swap; iexact H12; ipureintro
    refine (LaneScatter.read_whole_store _ _ zeros2 _ _).trans ?_
    try sl_unfold_run_names
    simp only [readAt_all, pay5_eq, pay6_eq, pay154_eq, pay170_eq, pay171_eq, pay172_eq, pay192_eq, pay193_eq, pay195_eq, pay196_eq, pay216_eq, pay217_eq, pay218_eq, pay237_eq, pay238_eq, pay239_eq, pay240_eq, pay241_eq, pay262_eq, pay263_eq, pay264_eq, pay283_eq, pay284_eq, pay285_eq, pay286_eq, pay292_eq, pay293_eq, pay294_eq, pay296_eq, pay297_eq, pay298_eq, pay299_eq, pay300_eq] <;> rfl
  · iexists f13; isplitr; · ipureintro; rfl
    iexact H13

/-- The last point only consumes. -/
theorem body_last (hc1 : ¬ cond1 i = 1#1) (hc2 : ¬ cond2 i = 1#1) (hc3 : ¬ k0_cond3 i = 1#1) (hc4 : k0_cond4 i = 1#1)
    (K : PUnit → sProp 𝕄) :
    iprop(held c M1 M2 M3 M4 M5 M6 M7 M8 M9 M10 M11 M12 M13 x1 x2 x3 x4 x5 x6 x7 x8 x9 x10 x11 x12 x13 ∗ (held c M1 M2 M3 M4 M5 M6 M7 M8 M9 M10 M11 M12 M13 x1 x2 x3 x4 x5 x6 x7 x8 (consume x11 x13 x2 x3 x4 x5 x6 x7 x8) x10 x11 x12 x13 -∗ K ⟨⟩))
      ⊢ wp frame (wpE (defs₀ (F := F)) Variants.none c none) E (cc0__fp_body i M1 h1 M2 h2 M3 h3 M4 h4 M5 h5 M6 h6 M7 h7 M8 h8 M9 h9 M10 h10 M11 h11 M12 h12 M13 h13) K := by
  rw [cc0__fp_body_eq_skeleton]; unfold cc0__fp_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton]
  unfold cond1 at hc1; unfold cond2 at hc2
  simp only [held, owns]
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%f10, %hf10, H10⟩, ⟨%f11, %hf11, H11⟩, ⟨%f12, %hf12, H12⟩, ⟨%f13, %hf13, H13⟩⟩, Hk⟩
  subst hf1 hf2 hf3 hf4 hf5 hf6 hf7 hf8 hf9 hf10 hf11 hf12 hf13
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr; swap; iexact H9; ipureintro
    refine (LaneScatter.read_whole_store _ _ zeros2 _ _).trans ?_
    try sl_unfold_run_names
    simp only [readAt_all, pay5_eq, pay6_eq, pay154_eq, pay170_eq, pay171_eq, pay172_eq, pay192_eq, pay193_eq, pay195_eq, pay196_eq, pay216_eq, pay217_eq, pay218_eq, pay237_eq, pay238_eq, pay239_eq, pay240_eq, pay241_eq, pay262_eq, pay263_eq, pay264_eq, pay283_eq, pay284_eq, pay285_eq, pay286_eq, pay292_eq, pay293_eq, pay294_eq, pay296_eq, pay297_eq, pay298_eq, pay299_eq, pay300_eq] <;> rfl
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  · iexists f13; isplitr; · ipureintro; rfl
    iexact H13

end Body

end Cert.KernelIdeal.Hand
-- ==== Proof.RunIdeal.lean ====
/-
  The run of the whole kernel: the proof data of its one pipeline, the body's obligation at every grid point, and what
  every final state holds.

  Between points the scratch pair of the parity just produced holds the distance block and the query norms of that
  point's tile; the invariant says so, and the consuming point that follows reads it.
-/
module

public import proofs.«01_k».proof.Proof.BodyIdeal

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The kinds of grid point -/

/-- Which branches run at point `t`: produce even, produce odd, consume even, consume odd; and where the output block
    is left alone. -/
theorem conds : ∀ t : Fin cfg0.N,
    (cond1 (grid0.coords t) = 1#1 ↔ t.val < 64 ∧ t.val % 2 = 0) ∧ (cond2 (grid0.coords t) = 1#1 ↔ t.val < 64 ∧ t.val % 2 = 1)
    ∧ (k0_cond3 (grid0.coords t) = 1#1 ↔ t.val % 2 = 1) ∧ (k0_cond4 (grid0.coords t) = 1#1 ↔ 0 < t.val ∧ t.val % 2 = 0)
    ∧ ((cfg0.idle 8 (grid0.coords t) = true) ↔ t.val = 0) ∧ (t.val = 0 → (cfg0.win 8).flush t = false) := by
  decide +kernel

/-! ## What the points leave -/

/-- The distance block point `t` produces. -/
def mmOf (c : Dev nD) (t : Fin cfg0.N) : Vec F S256x4096 .f32 := k0_pay2 (iblk m c 0 t) (iblk m c 1 t)

/-- The query norms point `t` produces. -/
def nnOf (c : Dev nD) (t : Fin cfg0.N) : Vec F S256x1 .f32 := k0_pay3 (iblk m c 0 t)

/-- The point before `t` (the first is its own). -/
def before (t : Fin cfg0.N) : Fin cfg0.N := ⟨t.val - 1, lt_of_le_of_lt (Nat.sub_le _ _) t.isLt⟩

/-- What point `t` leaves in its output block: `consume` of what the point before produced. -/
def outOf (c : Dev nD) (t : Fin cfg0.N) : Vec F S128x256 .f32 :=
  consume (mmOf m c (before t)) (nnOf m c (before t)) (iblk m c 1 t) (iblk m c 2 t) (iblk m c 3 t) (iblk m c 4 t) (iblk m c 5 t)
    (iblk m c 6 t) (iblk m c 7 t)

/-- Before point `n` the scratch pair of the last point's parity holds what that point produced. -/
def Kept (c : Dev nD) (n : ℕ) (x10 x11 : Vec F S256x4096 .f32) (x12 x13 : Vec F S256x1 .f32) : Prop :=
  ∀ t : Fin cfg0.N, n = t.val + 1 → t.val < 64 →
    (t.val % 2 = 0 → x10 = mmOf m c t ∧ x12 = nnOf m c t) ∧ (t.val % 2 = 1 → x11 = mmOf m c t ∧ x13 = nnOf m c t)

/-- The invariant before point `n`: the scratch pairs, as `Kept`, and the generator register. -/
def Inv (c : Dev nD) (n : ℕ) (_ : n ≤ cfg0.N) : sProp 𝕄 :=
  iprop(∃ x10 x11 x12 x13, ⌜Kept m c n x10 x11 x12 x13⌝
    ∗ owns (c : Thread nD τ) (Memref.whole cc0_scratch0) fullShare x10 ∗ owns (c : Thread nD τ) (Memref.whole cc0_scratch1) fullShare x11
    ∗ owns (c : Thread nD τ) (Memref.whole cc0_scratch2) fullShare x12 ∗ owns (c : Thread nD τ) (Memref.whole cc0_scratch3) fullShare x13
    ∗ ∃ r, prngReg c r)

/-- The proof data: the arrays as the region finds them; inputs left in place, the output block at `outOf`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outOf m c t
  Φ t := Inv m c t.val (Nat.le_of_lt_succ t.isLt)
  q _ := fullShare
  owed _ := 0

/-- The arrays of the proof data are the region-entry contents. -/
theorem A_eq (c : Dev nD) (w) : (dats m 0 c).A w = V m c (Pipeline.arrRef spec0 w) := rfl

/-- The invariant at a point's start. -/
theorem Φ_castSucc (c : Dev nD) (t : Fin cfg0.N) : (dats m 0 c).Φ t.castSucc = Inv m c t.val (Nat.le_of_lt t.isLt) :=
  Pipeline.Dat.Φ_castSucc (Inv m c) t

/-- The invariant at a point's end. -/
theorem Φ_succ (c : Dev nD) (t : Fin cfg0.N) : (dats m 0 c).Φ t.succ = Inv m c (t.val + 1) t.isLt := rfl

/-- The pipeline's call at point `t` is the body at the point's buffers. -/
theorem defs₀_row (t : Fin cfg0.N) : defs₀ (F := F) .tc cfg0.body (cfg0.bodyArgs t (cfg0.slots t)) = bodyAt0 t := by
  unfold defs₀; rw [Defs.onTc_tc]

set_option maxHeartbeats 2000000 in
/-- A body that reads what the invariant holds and leaves what it asks for meets the point's obligation. -/
theorem point (c : Dev nD) (t : Fin cfg0.N)
    (hidle : cfg0.idle 8 (grid0.coords t) = true → (cfg0.win 8).flush t = false)
    (hb : ∀ (x9 : Vec F S128x256 .f32) (x10 x11 : Vec F S256x4096 .f32) (x12 x13 : Vec F S256x1 .f32), Kept m c t.val x10 x11 x12 x13 →
      ∃ (y9 : Vec F S128x256 .f32) (y10 y11 : Vec F S256x4096 .f32) (y12 y13 : Vec F S256x1 .f32),
        Kept m c (t.val + 1) y10 y11 y12 y13 ∧ (cfg0.idle 8 (grid0.coords t) = true → y9 = x9)
        ∧ (cfg0.idle 8 (grid0.coords t) = false → y9 = outOf m c t)
        ∧ ∀ K : PUnit → sProp 𝕄, iprop(held c (st0_0 t) (st0_1 t) (st0_2 t) (st0_3 t) (st0_4 t) (st0_5 t) (st0_6 t) (st0_7 t) (st0_8 t)
            (Memref.whole cc0_scratch0) (Memref.whole cc0_scratch1) (Memref.whole cc0_scratch2) (Memref.whole cc0_scratch3)
            (iblk m c 0 t) (iblk m c 1 t) (iblk m c 2 t) (iblk m c 3 t) (iblk m c 4 t) (iblk m c 5 t) (iblk m c 6 t) (iblk m c 7 t)
            x9 x10 x11 x12 x13
          ∗ (held c (st0_0 t) (st0_1 t) (st0_2 t) (st0_3 t) (st0_4 t) (st0_5 t) (st0_6 t) (st0_7 t) (st0_8 t)
            (Memref.whole cc0_scratch0) (Memref.whole cc0_scratch1) (Memref.whole cc0_scratch2) (Memref.whole cc0_scratch3)
            (iblk m c 0 t) (iblk m c 1 t) (iblk m c 2 t) (iblk m c 3 t) (iblk m c 4 t) (iblk m c 5 t) (iblk m c 6 t) (iblk m c 7 t)
            y9 y10 y11 y12 y13 -∗ K ⟨⟩))
          ⊢ wp frame (wpE (defs₀ (F := F)) Variants.none c none) Set.univ (bodyAt0 t) K) :
    iprop((dats m 0 c).Φ t.castSucc ∗ (dats m 0 c).owesAt () t.castSucc
      ∗ bigSep Finset.univ (fun w => iprop(∃ d, owns (c : Thread nD τ) ((cfg0.win w).stage (cfg0.slots t w)) fullShare ((dats m 0 c).before w t d))))
    ⊢ wp frame (wpE (defs₀ (F := F)) Variants.none c none) Set.univ (bodyAt0 t) (fun _ => iprop((dats m 0 c).Φ t.succ
      ∗ (dats m 0 c).owesAt () t.succ
      ∗ bigSep Finset.univ (fun w => match cfg0.idle w (grid0.coords t) with
        | true => (match (cfg0.win w).flush t with
          | false => iprop(∃ d, owns (c : Thread nD τ) ((cfg0.win w).stage (cfg0.slots t w)) fullShare ((dats m 0 c).before w t d))
          | true => owns (c : Thread nD τ) ((cfg0.win w).stage (cfg0.slots t w)) fullShare ((dats m 0 c).after w t))
        | false => owns (c : Thread nD τ) ((cfg0.win w).stage (cfg0.slots t w)) fullShare ((dats m 0 c).after w t)))) := by
  rw [bigSep_W0, bigSep_W0, Φ_castSucc, Φ_succ]
  unfold Inv
  iintro ⟨⟨%x10, %x11, %x12, %x13, %hk, S0, S1, S2, S3, Hr⟩, Ho, ⟨%d0, H0⟩, ⟨%d1, H1⟩, ⟨%d2, H2⟩, ⟨%d3, H3⟩, ⟨%d4, H4⟩, ⟨%d5, H5⟩,
    ⟨%d6, H6⟩, ⟨%d7, H7⟩, ⟨%d8, H8⟩⟩
  rw [before0_0_of m (dats m 0 c) rfl (fun _ => rfl) t d0, before0_1_of m (dats m 0 c) rfl (fun _ => rfl) t d1,
    before0_2_of m (dats m 0 c) rfl (fun _ => rfl) t d2, before0_3_of m (dats m 0 c) rfl (fun _ => rfl) t d3,
    before0_4_of m (dats m 0 c) rfl (fun _ => rfl) t d4, before0_5_of m (dats m 0 c) rfl (fun _ => rfl) t d5,
    before0_6_of m (dats m 0 c) rfl (fun _ => rfl) t d6, before0_7_of m (dats m 0 c) rfl (fun _ => rfl) t d7]
  obtain ⟨y9, y10, y11, y12, y13, hk', hi, hn, hw⟩ := hb ((dats m 0 c).before 8 t d8) x10 x11 x12 x13 hk
  iapply (hw _)
  isplitl [H0 H1 H2 H3 H4 H5 H6 H7 H8 S0 S1 S2 S3]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    isplitl [S2]; · iexact S2
    iexact S3
  · unfold held
    iintro ⟨H0, H1, H2, H3, H4, H5, H6, H7, H8, S0, S1, S2, S3⟩
    isplitl [S0 S1 S2 S3 Hr]
    · iexists y10; iexists y11; iexists y12; iexists y13
      isplitr; · ipureintro; exact hk'
      isplitl [S0]; · iexact S0
      isplitl [S1]; · iexact S1
      isplitl [S2]; · iexact S2
      isplitl [S3]; · iexact S3
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    cases h : cfg0.idle 8 (grid0.coords t) with
    | true =>
      rw [hidle h]
      dsimp only
      iexists d8
      rw [← hi h]
      iexact H8
    | false =>
      dsimp only
      rw [hn h]
      iexact H8

/-- The index before a later point. -/
theorem before_val (t : Fin cfg0.N) : (before t).val = t.val - 1 := rfl

set_option maxHeartbeats 1000000 in
/-- Every point meets its obligation: each kind of point by the body's run there. -/
theorem body_obligation (c : Dev nD) : BodyObligation (dats m 0 c) (defs₀ (F := F)) Variants.none () Set.univ := fun t => by
  rw [defs₀_row]
  obtain ⟨h1, h2, h3, h4, hid, hfl⟩ := conds t
  refine point m c t (fun h => hfl (hid.mp h)) fun x9 x10 x11 x12 x13 hk => ?_
  have ht : t.val < 65 := t.isLt
  have hpt : 0 < t.val → before t = ⟨t.val - 1, lt_of_le_of_lt (Nat.sub_le _ _) t.isLt⟩ := fun _ => rfl
  have hstep : ∀ {y10 y11 y12 y13}, (t.val < 64 → (t.val % 2 = 0 → y10 = mmOf m c t ∧ y12 = nnOf m c t) ∧
      (t.val % 2 = 1 → y11 = mmOf m c t ∧ y13 = nnOf m c t)) → Kept m c (t.val + 1) y10 y11 y12 y13 := by
    intro y10 y11 y12 y13 h s hs hlt
    obtain rfl : t = s := Fin.ext (by omega)
    exact h hlt
  by_cases h0 : t.val = 0
  · refine ⟨x9, mmOf m c t, x11, nnOf m c t, x13, hstep fun _ => ⟨fun _ => ⟨rfl, rfl⟩, fun h => by omega⟩, fun _ => rfl,
      fun h => absurd (h.symm.trans (hid.mpr h0)) (by decide), fun K => ?_⟩
    exact body_first c Set.univ (grid0.coords t) _ _ _ _ _ _ _ _ _ _ _ _ _ _ _ _ _ _ _ _ _ _ _ _ _ _ _ _ _ _ _ _ _ _ _ _ _ _ _
      (h1.mpr (by omega)) (fun h => by have := h2.mp h; omega) (fun h => by have := h3.mp h; omega) (fun h => by have := h4.mp h; omega) K
  have hprev := hk (before t) (by rw [before_val]; omega) (by rw [before_val]; omega)
  rw [before_val] at hprev
  have hne : cfg0.idle 8 (grid0.coords t) = true → False := fun h => h0 (hid.mp h)
  by_cases hodd : t.val % 2 = 1
  · obtain ⟨rfl, rfl⟩ := hprev.1 (by omega)
    refine ⟨outOf m c t, mmOf m c (before t), mmOf m c t, nnOf m c (before t), nnOf m c t, hstep fun _ => ⟨fun h => by omega, fun _ => ⟨rfl, rfl⟩⟩,
      fun h => (hne h).elim, fun _ => rfl, fun K => ?_⟩
    exact body_odd c Set.univ (grid0.coords t) _ _ _ _ _ _ _ _ _ _ _ _ _ _ _ _ _ _ _ _ _ _ _ _ _ _ _ _ _ _ _ _ _ _ _ _ _ _ _
      (fun h => by have := h1.mp h; omega) (h2.mpr (by omega)) (h3.mpr (by omega)) (fun h => by have := h4.mp h; omega) K
  obtain ⟨rfl, rfl⟩ := hprev.2 (by omega)
  by_cases hlast : t.val < 64
  · refine ⟨outOf m c t, mmOf m c t, mmOf m c (before t), nnOf m c t, nnOf m c (before t), hstep fun _ => ⟨fun _ => ⟨rfl, rfl⟩, fun h => by omega⟩,
      fun h => (hne h).elim, fun _ => rfl, fun K => ?_⟩
    exact body_even c Set.univ (grid0.coords t) _ _ _ _ _ _ _ _ _ _ _ _ _ _ _ _ _ _ _ _ _ _ _ _ _ _ _ _ _ _ _ _ _ _ _ _ _ _ _
      (h1.mpr (by omega)) (fun h => by have := h2.mp h; omega) (fun h => by have := h3.mp h; omega) (h4.mpr (by omega)) K
  · refine ⟨outOf m c t, x10, mmOf m c (before t), x12, nnOf m c (before t), hstep fun h => (hlast h).elim, fun h => (hne h).elim, fun _ => rfl, fun K => ?_⟩
    exact body_last c Set.univ (grid0.coords t) _ _ _ _ _ _ _ _ _ _ _ _ _ _ _ _ _ _ _ _ _ _ _ _ _ _ _ _ _ _ _ _ _ _ _ _ _ _ _
      (fun h => by have := h1.mp h; omega) (fun h => by have := h2.mp h; omega) (fun h => by have := h3.mp h; omega) (h4.mpr (by omega)) K

/-! ## The run -/

/-- What the launch hands the body is the invariant before the first point. -/
theorem hin (c : Dev nD) : (Pipeline.ΦA spec0 c : sProp 𝕄) ⊢ (dats m 0 c).Φ 0 := by
  show _ ⊢ Inv m c 0 (Nat.zero_le _)
  unfold Pipeline.ΦA Inv
  rw [scopedRest0_eq]
  simp only [owns_whole_eq]
  iintro ⟨⟨⟨%f0, S0⟩, ⟨%f1, S1⟩, ⟨%f2, S2⟩, ⟨%f3, S3⟩⟩, Hr⟩
  iexists f0; iexists f1; iexists f2; iexists f3
  isplitr; · ipureintro; exact fun s hs => absurd hs (by omega)
  isplitl [S0]; · iexists f0; isplitr; · ipureintro; rfl
                  iexact S0
  isplitl [S1]; · iexists f1; isplitr; · ipureintro; rfl
                  iexact S1
  isplitl [S2]; · iexists f2; isplitr; · ipureintro; rfl
                  iexact S2
  isplitl [S3]; · iexists f3; isplitr; · ipureintro; rfl
                  iexact S3
  iexact Hr

/-- The invariant after the last point hands everything back. -/
theorem hout (c : Dev nD) : (dats m 0 c).Φ (Fin.last cfg0.N) ⊢ (Pipeline.ΦA spec0 c : sProp 𝕄) := by
  show Inv m c cfg0.N (Nat.le_refl _) ⊢ _
  unfold Pipeline.ΦA Inv
  rw [scopedRest0_eq]
  simp only [owns_whole_eq]
  iintro ⟨%x0, %x1, %x2, %x3, %hk, ⟨%f0, %h0, S0⟩, ⟨%f1, %h1, S1⟩, ⟨%f2, %h2, S2⟩, ⟨%f3, %h3, S3⟩, Hr⟩
  isplitr [Hr]
  · isplitl [S0]; · iexists f0; iexact S0
    isplitl [S1]; · iexists f1; iexact S1
    isplitl [S2]; · iexists f2; iexact S2
    iexists f3; iexact S3
  iexact Hr

set_option backward.isDefEq.respectTransparency.types false in
/-- THE RUN: every execution of `main` ends; every array then holds what the proof data computes, every other buffer
    what the region found, and every counter is zero. -/
theorem run_main (ρ : Dev nD → PrngReg) :
    θ_run defs (onTc (τ := τ) (main (F := F))) (s₀ m ρ) (fun r => Pipeline.FramePost cfgs (dats m) 0 (V m) r ∧ r.2.sem = fun _ => 0) :=
  Pipeline.θ_run_frame_track cfgs (dats m) 0 launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)
    (Q' := fun r => Pipeline.FramePost cfgs (dats m) 0 (V m) r ∧ r.2.sem = fun _ => 0) (hQ' := fun _ h => h)

/-- The arguments after the run are the arguments before it. -/
theorem args_kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    ((h c).2 main_arg14 (Pipeline.mem_restRefs_of main_arg14 (by decide) (by decide))).trans (V_main_arg14 m c),
    ((h c).2 main_arg15 (Pipeline.mem_restRefs_of main_arg15 (by decide) (by decide))).trans (V_main_arg15 m c)⟩

/-- Every execution ends with the arguments unchanged and every counter zero. -/
theorem quiescent (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run defs _ _).mono (fun r h => ⟨fun c => args_kept m r h.1 c, h.2⟩) (run_main m ρ)

end Cert.KernelIdeal.Hand
-- ==== Proof.Nearest.lean ====
module

public import Idealize.ShloMosaic.Lib.Pointwise

@[expose] public section

set_option maxRecDepth 16384

namespace Cert.Nearest

/-! # Three smallest values

A row of extended reals `e` has a strict first, second and third smallest entry (`Three`). A running triple that
keeps the three smallest of the values it is shown (`ins`) then ends up holding each of those of the three that it
was shown; and the three are found again among the triples' entries as a minimum, the minimum of what is above it,
and the minimum of what is above that. -/

/-- `s 0`, `s 1`, `s 2` are the positions of the strictly smallest, second smallest and third smallest entries of
    `e`, every other entry being strictly larger. -/
structure Three {n : ℕ} (e : Fin n → EReal) (s : Fin 3 → Fin n) : Prop where
  lt01 : e (s 0) < e (s 1)
  lt12 : e (s 1) < e (s 2)
  rest : ∀ j, j ≠ s 0 → j ≠ s 1 → j ≠ s 2 → e (s 2) < e j

/-- Adding one real number to all entries keeps the three smallest where they are. -/
theorem Three.of_add {n : ℕ} {e : Fin n → EReal} {s : Fin 3 → Fin n} (r : ℝ) (h : Three (fun j => e j + (r : EReal)) s) :
    Three e s := by
  have key : ∀ a b : EReal, a + (r : EReal) < b + (r : EReal) → a < b := fun a b hab => by
    by_contra hn
    exact absurd hab (not_lt.mpr (add_le_add_left (not_lt.mp hn) _))
  exact ⟨key _ _ h.lt01, key _ _ h.lt12, fun j h0 h1 h2 => key _ _ (h.rest j h0 h1 h2)⟩

/-- Insert a value into an ascending triple, dropping the largest of the four. -/
noncomputable def ins (t : EReal × EReal × EReal) (d : EReal) : EReal × EReal × EReal :=
  (min t.1 d, min t.2.1 (max t.1 d), min t.2.2 (max t.2.1 (max t.1 d)))

/-- Inserting into an ascending triple, by the place of the new value. -/
theorem ins_cases {a b c d : EReal} (hab : a ≤ b) (hbc : b ≤ c) :
    (d ≤ a ∧ ins (a, b, c) d = (d, a, b)) ∨ (a ≤ d ∧ d ≤ b ∧ ins (a, b, c) d = (a, d, b)) ∨
      (b ≤ d ∧ d ≤ c ∧ ins (a, b, c) d = (a, b, d)) ∨ (c ≤ d ∧ ins (a, b, c) d = (a, b, c)) := by
  rcases le_total d a with h1 | h1
  · left; refine ⟨h1, ?_⟩
    simp [ins, h1, hab, hbc]
  rcases le_total d b with h2 | h2
  · right; left; refine ⟨h1, h2, ?_⟩
    simp [ins, h1, h2, hbc]
  rcases le_total d c with h3 | h3
  · right; right; left; refine ⟨h2, h3, ?_⟩
    simp [ins, h1, h2, h3]
  · right; right; right; refine ⟨h3, ?_⟩
    simp [ins, h1, h2, h3]

/-- What a running triple keeps, having been shown the values `L`: it ascends; it has no repetition up to the bound
    `z`; a value shown is in it or not below its last entry; its entries are values shown, or `⊤`. -/
structure Keeps (z : EReal) (L : List EReal) (t : EReal × EReal × EReal) : Prop where
  le1 : t.1 ≤ t.2.1
  le2 : t.2.1 ≤ t.2.2
  st1 : t.1 = t.2.1 → z < t.1
  st2 : t.2.1 = t.2.2 → z < t.2.1
  has : ∀ x ∈ L, x = t.1 ∨ x = t.2.1 ∨ x = t.2.2 ∨ t.2.2 ≤ x
  mem1 : t.1 = ⊤ ∨ t.1 ∈ L
  mem2 : t.2.1 = ⊤ ∨ t.2.1 ∈ L
  mem3 : t.2.2 = ⊤ ∨ t.2.2 ∈ L

/-- One more value, not a repetition below the bound: the triple still keeps what it must. -/
theorem Keeps.ins {z d : EReal} (hz : z < ⊤) {L : List EReal} {t : EReal × EReal × EReal} (h : Keeps z L t)
    (hd : d ∈ L → z < d) : Keeps z (L ++ [d]) (ins t d) := by
  obtain ⟨a, b, c⟩ := t
  obtain ⟨hab, hbc, s1, s2, has, m1, m2, m3⟩ := h
  simp only at hab hbc s1 s2 has m1 m2 m3
  have f : ∀ x, (x = ⊤ ∨ x ∈ L) → x = d → z < d := by
    rintro x (rfl | hx) rfl
    · exact hz
    · exact hd hx
  have up : ∀ x, (x = ⊤ ∨ x ∈ L) → (x = ⊤ ∨ x ∈ L ++ [d]) := fun x hx => hx.imp_right (by simp +contextual)
  have dn : d = ⊤ ∨ d ∈ L ++ [d] := .inr (by simp)
  have hm : ∀ P : EReal → Prop, (∀ x ∈ L, P x) → P d → ∀ x ∈ L ++ [d], P x := by
    intro P hP hPd x hx
    rcases List.mem_append.mp hx with hx | hx
    · exact hP x hx
    · rw [List.mem_singleton.mp hx]; exact hPd
  rcases ins_cases (d := d) hab hbc with ⟨h1, e⟩ | ⟨h1, h2, e⟩ | ⟨h1, h2, e⟩ | ⟨h1, e⟩ <;> rw [e]
  · refine ⟨h1, hab, fun q => f a m1 q.symm, s1, hm _ (fun x hx => ?_) (.inl rfl), dn, up _ m1, up _ m2⟩
    rcases has x hx with q | q | q | q
    · exact .inr (.inl q)
    · exact .inr (.inr (.inl q))
    · exact .inr (.inr (.inr (q ▸ hbc)))
    · exact .inr (.inr (.inr (hbc.trans q)))
  · refine ⟨h1, h2, fun q => q ▸ f a m1 q, fun q => f b m2 q.symm, hm _ (fun x hx => ?_) (.inr (.inl rfl)), up _ m1, dn, up _ m2⟩
    rcases has x hx with q | q | q | q
    · exact .inl q
    · exact .inr (.inr (.inl q))
    · exact .inr (.inr (.inr (q ▸ hbc)))
    · exact .inr (.inr (.inr (hbc.trans q)))
  · refine ⟨hab, h1, s1, fun q => q ▸ f b m2 q, hm _ (fun x hx => ?_) (.inr (.inr (.inl rfl))), up _ m1, up _ m2, dn⟩
    rcases has x hx with q | q | q | q
    · exact .inl q
    · exact .inr (.inl q)
    · exact .inr (.inr (.inr (q ▸ h2)))
    · exact .inr (.inr (.inr (h2.trans q)))
  · exact ⟨hab, hbc, s1, s2, hm _ has (.inr (.inr (.inr h1))), up _ m1, up _ m2, up _ m3⟩

/-- A run of insertions from the triple that holds nothing, over values that do not repeat up to the bound. -/
theorem keeps_foldl {z : EReal} (hz : z < ⊤) (L : List EReal) (hL : L.Pairwise fun x y => x = y → z < y) :
    Keeps z L (L.foldl ins (⊤, ⊤, ⊤)) := by
  induction L using List.reverseRecOn with
  | nil => exact ⟨le_rfl, le_rfl, fun _ => hz, fun _ => hz, by simp, .inl rfl, .inl rfl, .inl rfl⟩
  | append_singleton L d ih =>
    rw [List.foldl_append]
    obtain ⟨hL1, -, h2⟩ := List.pairwise_append.mp hL
    exact (ih hL1).ins hz fun hd => h2 d hd d (by simp) rfl

/-- Positions of a row with a strict three smallest: no two of them hold one value up to the third smallest. -/
theorem Three.inj {n : ℕ} {e : Fin n → EReal} {s : Fin 3 → Fin n} (h : Three e s) {i j : Fin n} (hij : i ≠ j)
    (he : e i = e j) : e (s 2) < e j := by
  by_cases i0 : i = s 0
  · by_cases j1 : j = s 1
    · subst i0 j1; exact absurd he h.lt01.ne
    · by_cases j2 : j = s 2
      · subst i0 j2; exact absurd he (h.lt01.trans h.lt12).ne
      · exact h.rest j (fun q => hij (i0.trans q.symm)) j1 j2
  by_cases i1 : i = s 1
  · by_cases j0 : j = s 0
    · subst i1 j0; exact absurd he h.lt01.ne'
    · by_cases j2 : j = s 2
      · subst i1 j2; exact absurd he h.lt12.ne
      · exact h.rest j j0 (fun q => hij (i1.trans q.symm)) j2
  by_cases i2 : i = s 2
  · by_cases j0 : j = s 0
    · subst i2 j0; exact absurd he (h.lt01.trans h.lt12).ne'
    · by_cases j1 : j = s 1
      · subst i2 j1; exact absurd he h.lt12.ne'
      · exact h.rest j j0 j1 (fun q => hij (i2.trans q.symm))
  exact he ▸ h.rest i i0 i1 i2

/-- Every entry is one of the three smallest or above them. -/
theorem Three.cases {n : ℕ} {e : Fin n → EReal} {s : Fin 3 → Fin n} (h : Three e s) (j : Fin n) :
    j = s 0 ∨ j = s 1 ∨ j = s 2 ∨ e (s 2) < e j := by
  by_cases i0 : j = s 0
  · exact .inl i0
  by_cases i1 : j = s 1
  · exact .inr (.inl i1)
  by_cases i2 : j = s 2
  · exact .inr (.inr (.inl i2))
  exact .inr (.inr (.inr (h.rest j i0 i1 i2)))

/-- A triple shown the values of a row at distinct positions `J` holds each of the row's three smallest among them. -/
theorem Three.held {n : ℕ} {e : Fin n → EReal} {s : Fin 3 → Fin n} (h : Three e s) (ht : e (s 2) < ⊤) {J : List (Fin n)}
    (hJ : J.Nodup) {k : Fin 3} (hk : s k ∈ J) :
    let t := (J.map e).foldl ins (⊤, ⊤, ⊤)
    e (s k) = t.1 ∨ e (s k) = t.2.1 ∨ e (s k) = t.2.2 := by
  intro t
  have K : Keeps (e (s 2)) (J.map e) t := keeps_foldl ht _ (by
    rw [List.pairwise_map]
    exact hJ.imp fun hij he => h.inj hij he)
  by_contra hn
  push Not at hn
  obtain ⟨n1, n2, n3⟩ := hn
  have l3 : t.2.2 ≤ e (s k) := by
    rcases K.has _ (List.mem_map_of_mem hk) with q | q | q | q
    · exact absurd q n1
    · exact absurd q n2
    · exact absurd q n3
    · exact q
  have lk : e (s k) ≤ e (s 2) := by
    fin_cases k
    · exact (h.lt01.trans h.lt12).le
    · exact h.lt12.le
    · exact le_rfl
  have c3 : t.2.2 < e (s k) := lt_of_le_of_ne l3 fun q => n3 q.symm
  have b2 : t.2.1 < t.2.2 := lt_of_le_of_ne K.le2 fun q =>
    absurd (K.st2 q) (not_lt.mpr (K.le2.trans (l3.trans lk)))
  have b1 : t.1 < t.2.1 := lt_of_le_of_ne K.le1 fun q =>
    absurd (K.st1 q) (not_lt.mpr (K.le1.trans (K.le2.trans (l3.trans lk))))
  have form : ∀ x, (x = ⊤ ∨ x ∈ J.map e) → x < e (s 2) → x = e (s 0) ∨ x = e (s 1) := by
    rintro x (rfl | hx) hlt
    · exact absurd (hlt.trans ht) (lt_irrefl _)
    · obtain ⟨j, -, rfl⟩ := List.mem_map.mp hx
      rcases h.cases j with rfl | rfl | rfl | q
      · exact .inl rfl
      · exact .inr rfl
      · exact absurd hlt (lt_irrefl _)
      · exact absurd (q.trans hlt) (lt_irrefl _)
  have L3 := c3.trans_le lk
  have f1 := form _ K.mem1 (b1.trans (b2.trans L3))
  have f2 := form _ K.mem2 (b2.trans L3)
  have f3 := form _ K.mem3 L3
  rcases f1 with q1 | q1 <;> rcases f2 with q2 | q2 <;> rcases f3 with q3 | q3 <;>
    first
    | exact absurd (q1.trans q2.symm) b1.ne
    | exact absurd (q2.trans q3.symm) b2.ne
    | exact absurd (q1.trans q3.symm) (b1.trans b2).ne

/-- An entry of such a triple is a value of the row, or `⊤`. -/
theorem mem_row {n : ℕ} {e : Fin n → EReal} {s : Fin 3 → Fin n} (h : Three e s) (ht : e (s 2) < ⊤) {J : List (Fin n)}
    (hJ : J.Nodup) :
    let t := (J.map e).foldl ins (⊤, ⊤, ⊤)
    (t.1 = ⊤ ∨ ∃ j, t.1 = e j) ∧ (t.2.1 = ⊤ ∨ ∃ j, t.2.1 = e j) ∧ (t.2.2 = ⊤ ∨ ∃ j, t.2.2 = e j) := by
  intro t
  have K : Keeps (e (s 2)) (J.map e) t := keeps_foldl ht _ (by
    rw [List.pairwise_map]
    exact hJ.imp fun hij he => h.inj hij he)
  have g : ∀ x, (x = ⊤ ∨ x ∈ J.map e) → (x = ⊤ ∨ ∃ j, x = e j) := fun x hx =>
    hx.imp_right fun q => by obtain ⟨j, -, rfl⟩ := List.mem_map.mp q; exact ⟨j, rfl⟩
  exact ⟨g _ K.mem1, g _ K.mem2, g _ K.mem3⟩

/-- The minimum of a finite family with a top start, read as an infimum. -/
theorem fold_min_eq {ι : Type} [Fintype ι] (f : ι → EReal) (v : EReal) (hv : ∃ i, f i = v) (hle : ∀ i, v ≤ f i) :
    Finset.univ.fold min ⊤ f = v := by
  apply le_antisymm
  · obtain ⟨i, rfl⟩ := hv
    exact (Finset.fold_min_le _).mpr (.inr ⟨i, Finset.mem_univ _, le_rfl⟩)
  · exact (Finset.le_fold_min _).mpr ⟨le_top, fun i _ => hle i⟩

/-- The three minima: of a family whose members are values of the row or `⊤` and among which the three smallest are,
    the minimum is the smallest; with the members equal to it raised to `⊤`, the second smallest; with those equal to
    that one raised too, the third smallest. -/
theorem Three.minima {n : ℕ} {e : Fin n → EReal} {s : Fin 3 → Fin n} (h : Three e s) {ι : Type} [Fintype ι]
    (A : ι → EReal) (hA : ∀ i, A i = ⊤ ∨ ∃ j, A i = e j) (hs : ∀ k, ∃ i, A i = e (s k)) :
    Finset.univ.fold min ⊤ A = e (s 0) ∧
    Finset.univ.fold min ⊤ (fun i => if A i = e (s 0) then ⊤ else A i) = e (s 1) ∧
    Finset.univ.fold min ⊤ (fun i => if (if A i = e (s 0) then ⊤ else A i) = e (s 1) then ⊤ else
      (if A i = e (s 0) then ⊤ else A i)) = e (s 2) := by
  have h01 := h.lt01
  have h12 := h.lt12
  have h02 := h01.trans h12
  have form : ∀ i, A i = e (s 0) ∨ A i = e (s 1) ∨ A i = e (s 2) ∨ e (s 2) < A i ∨ A i = ⊤ := fun i => by
    rcases hA i with q | ⟨j, q⟩
    · exact .inr (.inr (.inr (.inr q)))
    · rcases h.cases j with rfl | rfl | rfl | w
      · exact .inl q
      · exact .inr (.inl q)
      · exact .inr (.inr (.inl q))
      · exact .inr (.inr (.inr (.inl (q ▸ w))))
  refine ⟨fold_min_eq _ _ (hs 0) fun i => ?_, fold_min_eq _ _ ?_ fun i => ?_, fold_min_eq _ _ ?_ fun i => ?_⟩
  · rcases form i with q | q | q | q | q
    · exact q ▸ le_rfl
    · exact q ▸ h01.le
    · exact q ▸ h02.le
    · exact (h02.trans q).le
    · exact q ▸ le_top
  · obtain ⟨i, hi⟩ := hs 1
    exact ⟨i, by rw [if_neg (hi ▸ h01.ne'), hi]⟩
  · split
    · exact le_top
    · rename_i hne
      rcases form i with q | q | q | q | q
      · exact absurd q hne
      · exact q ▸ le_rfl
      · exact q ▸ h12.le
      · exact (h12.trans q).le
      · exact q ▸ le_top
  · obtain ⟨i, hi⟩ := hs 2
    exact ⟨i, by rw [if_neg (hi ▸ h02.ne' : A i ≠ e (s 0)), if_neg (hi ▸ h12.ne'), hi]⟩
  · by_cases hne : A i = e (s 0)
    · simp only [if_pos hne]; split <;> exact le_top
    · simp only [if_neg hne]
      by_cases hne1 : A i = e (s 1)
      · rw [if_pos hne1]; exact le_top
      · rw [if_neg hne1]
        rcases form i with q | q | q | q | q
        · exact absurd q hne
        · exact absurd q hne1
        · exact q ▸ le_rfl
        · exact q.le
        · exact q ▸ le_top

/-- The weights: one sum over the whole row, whose terms are chosen by comparing the row's entries with the three
    smallest, is the sum of the three terms at their positions. -/
theorem Three.sum_select {n : ℕ} {e : Fin n → EReal} {s : Fin 3 → Fin n} (h : Three e s) (r : Fin 3 → EReal)
    (p : Fin n → EReal) :
    ∑ j, (if e j = e (s 0) then r 0 else if e j = e (s 1) then r 1 else if e j = e (s 2) then r 2 else 0) * p j
      = r 0 * p (s 0) + (r 1 * p (s 1) + r 2 * p (s 2)) := by
  have h01 := h.lt01
  have h12 := h.lt12
  have h02 := h01.trans h12
  have n01 : s 0 ≠ s 1 := fun q => h01.ne (congrArg e q)
  have n02 : s 0 ≠ s 2 := fun q => h02.ne (congrArg e q)
  have n12 : s 1 ≠ s 2 := fun q => h12.ne (congrArg e q)
  rw [← Finset.sum_subset (Finset.subset_univ {s 0, s 1, s 2})]
  · rw [Finset.sum_insert (by simp [n01, n02]), Finset.sum_insert (by simp [n12]), Finset.sum_singleton]
    rw [if_pos rfl, if_neg h01.ne', if_pos rfl, if_neg h02.ne', if_neg h12.ne', if_pos rfl]
  · intro j _ hj
    simp only [Finset.mem_insert, Finset.mem_singleton, not_or] at hj
    have := h.rest j hj.1 hj.2.1 hj.2.2
    rw [if_neg ((h02.trans this).ne'), if_neg ((h12.trans this).ne'), if_neg this.ne', zero_mul]

end Cert.Nearest
-- ==== Proof.Order.lean ====
module

public import proofs.«01_k».proof.Proof.Gen.ReferenceIdeal.Read
public import Idealize.ShloMosaic.Lib.Pointwise
public import Idealize.ShloMosaic.Lib.SortFacts
public import proofs.«01_k».proof.Proof.Nearest

@[expose] public section

set_option maxRecDepth 65536

noncomputable section

namespace Cert.Nearest

open Idealize.ShloMosaic

/-! # The sorted order of a row

The sort's own order of a row of extended reals, and what it says about the three smallest entries; then the sorted
array and the sorted positions read at an index. -/

/-- The position of the `k`-th entry of a row in ascending order. -/
def order {n : ℕ} (f : Fin n → EReal) : Fin n → Fin n := sortedFrom (fun k k' => decide (f k < f k'))

/-- The positions of the first three entries in ascending order. -/
def firsts (f : Fin 4096 → EReal) (k : Fin 3) : Fin 4096 := order f ⟨k.val, by omega⟩

/-- Along the order the entries do not descend. -/
theorem order_le {n : ℕ} (f : Fin n → EReal) {i j : Fin n} (h : i < j) : f (order f i) ≤ f (order f j) := by
  have := sortedFrom_noInversion (fun k k' => decide (f k < f k')) (fun k k' => decide (f k < f k'))
    (fun a b hab => by simp only [decide_eq_true_eq, decide_eq_false_iff_not] at hab ⊢; exact not_lt.mpr hab.le)
    (fun a b hab => hab)
    (fun a b c hab hbc => by
      simp only [decide_eq_false_iff_not, not_lt] at hab hbc ⊢; first | exact le_trans hab hbc | exact le_trans hbc hab)
    i j h
  simp only [decide_eq_false_iff_not, not_lt] at this
  exact this

/-- If the first four entries in ascending order are strictly increasing, the first three are the three smallest. -/
theorem three_of_strict (f : Fin 4096 → EReal)
    (h : ∀ k : Fin 3, f (order f ⟨k.val, by omega⟩) < f (order f ⟨k.val + 1, by omega⟩)) : Three f (firsts f) where
  lt01 := h 0
  lt12 := h 1
  rest j h0 h1 h2 := by
    obtain ⟨i, rfl⟩ := sortedFrom_surjective (fun k k' => decide (f k < f k')) j
    have n0 : i.val ≠ 0 := fun e => h0 (congrArg (order f) (Fin.ext e))
    have n1 : i.val ≠ 1 := fun e => h1 (congrArg (order f) (Fin.ext e))
    have n2 : i.val ≠ 2 := fun e => h2 (congrArg (order f) (Fin.ext e))
    refine lt_of_lt_of_le (h 2) ?_
    rcases Nat.lt_or_ge 3 i.val with h3 | h3
    · exact order_le f (i := ⟨3, by omega⟩) (j := i) h3
    · exact le_of_eq (congrArg (fun z => f (order f z)) (Fin.ext (show (3 : ℕ) = i.val by omega)))

/-- Position `j` of the row through `ix2 n k` is `ix2 n j`. -/
theorem along_row (n : Fin 16384) (k j : Fin 4096) :
    Shape.Idx.along (s := ⟨2, ![16384, 4096]⟩) (ix2 n k) ⟨1, Nat.one_lt_two⟩ j = ix2 n j := by
  funext a
  match a with
  | ⟨0, _⟩ => rfl
  | ⟨1, _⟩ => rfl

/-- A sorted array read at an index, when the comparison is by the entries themselves. -/
theorem sort_apply (cmp : EReal → EReal → BitVec 1) (hc : ∀ a b, (cmp a b == 1#1) = decide (a < b))
    (x : (⟨2, ![16384, 4096]⟩ : Shape).Idx → EReal) (n : Fin 16384) (k : Fin 4096) :
    Host.sort ⟨2, ![16384, 4096]⟩ 1 cmp x (ix2 n k) = x (ix2 n (order (fun j => x (ix2 n j)) k)) := by
  unfold Host.sort
  rw [dif_pos Nat.one_lt_two]
  refine (congrArg x (along_row n k _)).trans (congrArg (fun g => x (ix2 n (sortedFrom g k))) ?_)
  funext a b
  exact (congrArg₂ (fun u v => cmp (x u) (x v) == 1#1) (along_row n k a) (along_row n k b)).trans (hc _ _)

/-- The positions carried by a sort, read at an index. -/
theorem sort2_apply (cmp : EReal × BitVec 32 → EReal × BitVec 32 → BitVec 1)
    (hc : ∀ a b u v, (cmp (a, u) (b, v) == 1#1) = decide (a < b))
    (x : (⟨2, ![16384, 4096]⟩ : Shape).Idx → EReal) (y : (⟨2, ![16384, 4096]⟩ : Shape).Idx → BitVec 32) (n : Fin 16384) (k : Fin 4096) :
    (Host.sort2 ⟨2, ![16384, 4096]⟩ 1 cmp x y).2 (ix2 n k) = y (ix2 n (order (fun j => x (ix2 n j)) k)) := by
  unfold Host.sort2
  rw [dif_pos Nat.one_lt_two]
  refine (congrArg y (along_row n k _)).trans (congrArg (fun g => y (ix2 n (sortedFrom g k))) ?_)
  funext a b
  exact (congrArg₂ (fun u v => cmp (x u, y u) (x v, y v) == 1#1) (along_row n k a) (along_row n k b)).trans (hc _ _ _ _)

/-- An extended real is never unlike itself, and replacing a zero by zero changes nothing. -/
theorem canon (l z : EReal) : Scalar.select (FloatOps.cmpf (F := Ideal) (φ := .f32) .une l l) z
    (Scalar.select (FloatOps.cmpf (F := Ideal) (φ := .f32) .oeq l (FloatOps.ofBits (F := Ideal) .f32 0#32)) (FloatOps.ofBits (F := Ideal) .f32 0#32) l) = l := by
  have h1 : FloatOps.cmpf (F := Ideal) (φ := .f32) .une l l = 0#1 := by
    simp [FloatOps.cmpf, Ideal.cmp]
  rw [h1, ValueIdx.select_zero]
  by_cases h : l = FloatOps.ofBits (F := Ideal) .f32 0#32
  · rw [← h]; unfold Scalar.select; split <;> rfl
  · have h2 : FloatOps.cmpf (F := Ideal) (φ := .f32) .oeq l (FloatOps.ofBits (F := Ideal) .f32 0#32) = 0#1 := by
      show BitVec.ofBool (decide (l = FloatOps.ofBits (F := Ideal) .f32 0#32)) = 0#1
      rw [decide_eq_false h]; rfl
    rw [h2, ValueIdx.select_zero]

/-- The order used to sort compares the entries. -/
theorem lt_bit (a b : EReal) : (FloatOps.cmpfTotal (F := Ideal) (φ := .f32) .lt a b == 1#1) = decide (a < b) := by
  show (Ideal.cmp .olt a b == 1#1) = _
  by_cases h : a < b <;> simp [Ideal.cmp, h]

/-- The rows of a table picked by a word, when the word is a row's number. -/
theorem gather_apply [Cert.ReferenceIdeal.Facts] (x : (⟨2, ![4096, 256]⟩ : Shape).Idx → EReal) (idx : (⟨3, ![16384, 3, 1]⟩ : Shape).Idx → BitVec 32)
    (n : Fin 16384) (k : Fin 3) (c : Fin 256) (j : Fin 4096) (h : idx (ix3 n k 0) = BitVec.ofNat 32 j.val) :
    Host.gather Cert.ReferenceIdeal.gather_S4096x256_S16384x3x1_S16384x3x256_2_0_n_n_0_2_1256 x idx (ix3 n k c) = x (ix2 j c) := by
  unfold Host.gather
  congr 1
  funext a
  refine Fin.ext ?_
  show GatherDims.start _ (ix3 n k c) idx a + GatherDims.batchCoord _ (ix3 n k c) a + GatherDims.offCoord _ (ix3 n k c) a = _
  rw [GatherDims.batchCoord_eq_zero _ _ _ List.not_mem_nil]
  have h01 : a = (0 : Fin 2) ∨ a = (1 : Fin 2) := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ Cert.ReferenceIdeal.gather_S4096x256_S16384x3x1_S16384x3x256_2_0_n_n_0_2_1256.startIndexMap from
      List.mem_singleton.mpr rfl)]
    have hsi : ∀ q, GatherDims.siIdx Cert.ReferenceIdeal.gather_S4096x256_S16384x3x1_S16384x3x256_2_0_n_n_0_2_1256 (ix3 n k c) q = ix3 n k 0 := by
      intro q; funext b; refine Fin.ext ?_
      match b with
      | ⟨0, _⟩ => rfl
      | ⟨1, _⟩ => rfl
      | ⟨2, _⟩ => exact Nat.lt_one_iff.mp (Fin.isLt _)
    rw [hsi, h]
    have hj := j.isLt
    have e : (BitVec.ofNat 32 j.val).toInt.toNat = j.val := by
      have hn : (BitVec.ofNat 32 j.val).toNat = j.val := by rw [BitVec.toNat_ofNat]; omega
      rw [BitVec.toInt_eq_toNat_of_lt (by omega), hn, Int.toNat_natCast]
    rw [e]
    show min j.val (4096 - 1) + 0 + 0 = j.val
    omega
  · unfold GatherDims.start
    rw [dif_neg (show ¬ (1 : Fin 2) ∈ Cert.ReferenceIdeal.gather_S4096x256_S16384x3x1_S16384x3x256_2_0_n_n_0_2_1256.startIndexMap from
      (by decide : ¬ (1 : Fin 2) ∈ ([0] : List (Fin 2))))]
    unfold GatherDims.offCoord
    rw [dif_pos ((GatherDims.mem_sKept _ _).mpr ⟨show ¬ (1 : Fin 2) ∈ ([0] : List (Fin 2)) by decide, List.not_mem_nil⟩)]
    simp only [Nat.zero_add]
    rfl

end Cert.Nearest
-- ==== Proof.Refval.lean ====
module

public import proofs.«01_k».proof.Proof.Gen.ReferenceIdeal.Read
public import Idealize.ShloMosaic.Lib.Pointwise
public import proofs.«01_k».proof.Proof.Order

@[expose] public section

set_option maxRecDepth 65536

noncomputable section

namespace Cert.ReferenceIdeal.Hand

open Cert.ReferenceIdeal Cert.ReferenceIdeal.Value Cert.ReferenceIdeal.Read Cert.Nearest
open Idealize.ShloMosaic

variable (x0 : (⟨S3x16384, .f32⟩ : BufTy).Contents (Elt Ideal)) (x1 : (⟨S3x4096, .f32⟩ : BufTy).Contents (Elt Ideal))
  (x2 : (⟨S128x16384, .f32⟩ : BufTy).Contents (Elt Ideal)) (x3 : (⟨S256x4096, .f32⟩ : BufTy).Contents (Elt Ideal))
  (x4 : (⟨S384x256, .f32⟩ : BufTy).Contents (Elt Ideal)) (x5 x6 x7 x8 x9 : (⟨S256, .f32⟩ : BufTy).Contents (Elt Ideal))
  (x10 : (⟨S256x128, .f32⟩ : BufTy).Contents (Elt Ideal)) (x11 x12 x13 x14 x15 : (⟨S128, .f32⟩ : BufTy).Contents (Elt Ideal))

/-! # The reference's arrays at an index -/

/-- The squared distance of query `n` and known point `j`, as the reference computes it. -/
def dist (n : Fin 16384) (j : Fin 4096) : EReal := val_main_v16 x0 x1 (ix2 n j)

/-- The three known points the reference picks for query `n`. -/
def pick (n : Fin 16384) : Fin 3 → Fin 4096 := firsts (dist x0 x1 n)

/-- The reciprocal of the distance to the `k`-th picked point. -/
def rec (n : Fin 16384) (k : Fin 3) : EReal :=
  Ideal.div 1 (dist x0 x1 n (pick x0 x1 n k) + Ideal.ofBits FTy.f32 841731191#32)

/-- The interpolated feature: the picked points' features weighted by the normalised reciprocals. -/
def interpolated (n : Fin 16384) (c : Fin 256) : EReal :=
  ∑ k : Fin 3, x3 (ix2 c (pick x0 x1 n k)) * Ideal.div (rec x0 x1 n k) (∑ k' : Fin 3, rec x0 x1 n k')

/-- The squared distance written out: minus twice the product, plus the two squared norms. -/
theorem dist_apply (n : Fin 16384) (j : Fin 4096) : dist x0 x1 n j =
    Ideal.ofBits FTy.f32 3221225472#32 * ∑ x : Fin 3, x0 (ix2 x n) * x1 (ix2 x j) + ∑ x : Fin 3, x0 (ix2 x n) * x0 (ix2 x n)
      + ∑ x : Fin 3, x1 (ix2 x j) * x1 (ix2 x j) := by
  unfold dist
  pointwise [val_main_v16, val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1]

/-- The reference's single-array comparison is the order of the extended reals. -/
theorem cmp1 (a b : EReal) : (comparator_f32_d1 (F := Ideal) a b == 1#1) = decide (a < b) := by
  unfold comparator_f32_d1
  simp only [canon]
  exact lt_bit a b

/-- The reference's paired comparison reads the values only. -/
theorem cmp2 (a b : EReal) (u v : BitVec 32) : (comparator_f32_i32_d1 (F := Ideal) (a, u) (b, v) == 1#1) = decide (a < b) := by
  unfold comparator_f32_i32_d1
  simp only [canon]
  exact lt_bit a b

/-- The three smallest distances are the distances to the picked points. -/
theorem v18_apply (n : Fin 16384) (k : Fin 3) : val_main_v18 x0 x1 (ix2 n k) = dist x0 x1 n (pick x0 x1 n k) := by
  pointwise [val_main_v18, val_main_v17]
  exact sort_apply _ cmp1 _ n _

/-- The sorted positions are the picked points' numbers. -/
theorem v20_apply (n : Fin 16384) (k : Fin 3) : val_main_v20 x0 x1 (ix2 n k) = BitVec.ofNat 32 (pick x0 x1 n k).val := by
  pointwise [val_main_v20, val_main_v19, val_main_call1_v0, val_main_call1_v1_0]
  exact sort2_apply _ cmp2 _ _ n _

/-- A picked point's weight is its reciprocal over the sum of the three. -/
theorem v28_apply (n : Fin 16384) (k : Fin 3) : val_main_v28 x0 x1 (ix2 n k) = Ideal.div (rec x0 x1 n k) (∑ k' : Fin 3, rec x0 x1 n k') := by
  pointwise [val_main_v28, val_main_v27, val_main_v26, val_main_v25, val_main_v24, val_main_v23, val_main_v22, val_main_v21, val_main_cst_2, val_main_cst_3, val_main_cst_4]
  simp only [v18_apply]
  rfl

/-- A row's number is not a negative word. -/
theorem not_neg (j : Fin 4096) : IntOp.cmpi CmpIPredicate.slt (BitVec.ofNat 32 j.val) 0#32 = 0#1 := by
  have hj := j.isLt
  have hn : (BitVec.ofNat 32 j.val).toNat = j.val := by rw [BitVec.toNat_ofNat]; omega
  have h0 : (BitVec.ofNat 32 j.val).toInt = j.val := by rw [BitVec.toInt_eq_toNat_of_lt (by omega), hn]
  show BitVec.ofBool (decide ((BitVec.ofNat 32 j.val).toInt < (0#32).toInt)) = 0#1
  rw [h0, decide_eq_false (by rw [BitVec.toInt_zero]; omega)]
  rfl

/-- The word a row is gathered by is the picked point's number. -/
theorem v34_apply (n : Fin 16384) (k : Fin 3) : val_main_v34 x0 x1 (ix3 n k 0) = BitVec.ofNat 32 (pick x0 x1 n k).val := by
  pointwise [val_main_v34, val_main_v33, val_main_v32, val_main_v31, val_main_v30, val_main_v29, val_main_c, val_main_c_5]
  rw [v20_apply]
  rw [not_neg, ValueIdx.select_zero]

/-- The gathered rows are the picked points' features. -/
theorem v35_apply (n : Fin 16384) (k : Fin 3) (c : Fin 256) : val_main_v35 x0 x1 x3 (ix3 n k c) = x3 (ix2 c (pick x0 x1 n k)) := by
  unfold val_main_v35
  rw [gather_apply _ _ n k c _ (v34_apply x0 x1 n k)]
  pointwise [val_main_v2]

/-- The weighted sum of the gathered rows is the interpolated feature. -/
theorem v39_apply (n : Fin 16384) (c : Fin 256) : val_main_v39 x0 x1 x3 (ix2 n c) = interpolated x0 x1 x3 n c := by
  pointwise [val_main_v39, val_main_v38, val_main_v37, val_main_v36, val_main_cst_6]
  simp only [v35_apply, v28_apply]
  rfl

/-- One layer of the reference's network before its bound at zero: bias, batch normalisation, scale and shift. -/
def bnLayer (h b μ v g β : EReal) : EReal :=
  Ideal.div (h + b - μ) (Ideal.sqrt (v + Ideal.ofBits FTy.f32 925353388#32)) * g + β

/-- The reference's result at an index. -/
theorem v82_apply (n : Fin 16384) (q : Fin 128) : val_main_v82 x0 x1 x2 x3 x4 x5 x6 x7 x8 x9 x10 x11 x12 x13 x14 x15 (ix2 q n) =
    max (bnLayer (∑ x : Fin 256, max (bnLayer (∑ c : Fin 128, x2 (ix2 c n) * x4 (ix2 ⟨c.val, by omega⟩ x)
        + ∑ c : Fin 256, interpolated x0 x1 x3 n c * x4 (ix2 ⟨128 + c.val, by omega⟩ x))
        (x5 (ix1 x)) (x8 (ix1 x)) (x9 (ix1 x)) (x6 (ix1 x)) (x7 (ix1 x))) 0 * x10 (ix2 x q))
      (x11 (ix1 q)) (x14 (ix1 q)) (x15 (ix1 q)) (x12 (ix1 q)) (x13 (ix1 q))) 0 := by
  pointwise [val_main_v82, val_main_v81, val_main_v80, val_main_v79, val_main_v78, val_main_v77, val_main_v76, val_main_v75, val_main_v74, val_main_v73, val_main_v72,
   val_main_v71, val_main_v70, val_main_v69, val_main_v68, val_main_v67, val_main_v66, val_main_v65, val_main_v64, val_main_v63, val_main_v62, val_main_v61,
   val_main_v60, val_main_v59, val_main_v58, val_main_v57, val_main_v56, val_main_v55, val_main_v54, val_main_v53, val_main_v52, val_main_v51, val_main_v50,
   val_main_v49, val_main_v48, val_main_v47, val_main_v46, val_main_v45, val_main_v44, val_main_v43, val_main_v42, val_main_v41, val_main_v40, val_main_cst_7, val_main_cst_8,
   val_main_call2_cst, val_main_call2_v0, val_main_call3_cst, val_main_call3_v0]
  simp only [v39_apply]
  rfl

end Cert.ReferenceIdeal.Hand
-- ==== Proof.Lanes.lean ====
/-
  The kernel's running triples, read at one row and one lane: the three values a lane holds after its 32 chunks are
  those of a run of insertions over the lane's 32 values.
-/
module

public import proofs.«01_k».proof.Proof.BodyIdeal
public import proofs.«01_k».proof.Proof.Nearest

@[expose] public section

set_option maxRecDepth 65536

noncomputable section

namespace Cert.KernelIdeal.Hand

open Cert.KernelIdeal.Gen Cert.Nearest
open Idealize.ShloMosaic

/-- Three blocks of lanes: the running smallest, second smallest and third smallest values. -/
abbrev V3 := FVec Ideal S256x128 .f32 × FVec Ideal S256x128 .f32 × FVec Ideal S256x128 .f32

/-- Show a chunk of values to the running triples, lane by lane. -/
def insV (t : V3) (d : FVec Ideal S256x128 .f32) : V3 :=
  (minimumf t.1 d, minimumf t.2.1 (maximumf t.1 d), minimumf t.2.2 (maximumf t.2.1 (maximumf t.1 d)))

/-- Chunk `k` lies within the 4096 lanes. -/
theorem inbK (k : Fin 32) : ∀ a, (![0, 128 * k.val] : Fin 2 → ℕ) a + S256x128.size a ≤ S256x4096.size a := by
  intro a; fin_cases a
  · show 0 + 256 ≤ 256; omega
  · have := k.isLt; show 128 * k.val + 128 ≤ 4096; omega

/-- Chunk `k` of a row of 4096 lanes is a slice of it. -/
theorem slicesK (k : Fin 32) : S1x4096.Slices ![0, 128 * k.val] S1x128 := by
  fin_cases k <;> decide

/-- The values chunk `k` shows: the scratch block's lanes plus the row of column norms. -/
def dAt (mm : Vec Ideal S256x4096 .f32) (n2 : FVec Ideal S1x4096 .f32) (k : Fin 32) : FVec Ideal S256x128 .f32 :=
  addf (chunkAt mm (128 * k.val) (inbK k))
    (broadcastTo S256x128 (extractStridedSlice S1x128 ![0, 128 * k.val] n2 (slicesK k)) broadcasts_S1x128_S256x128)

/-- The triples after the last chunk. -/
def tri (mm : Vec Ideal S256x4096 .f32) (x2 : Vec Ideal S8x4096 .f32) : V3 :=
  insV ((net mm x2).1, (net mm x2).2.1, (net mm x2).2.2.1) (net mm x2).2.2.2

/-- They are a run of 32 insertions. -/
theorem tri_eq (mm : Vec Ideal S256x4096 .f32) (x2 : Vec Ideal S8x4096 .f32) :
    tri mm x2 = (List.finRange 32).foldl (fun t k => insV t (dAt mm (k0_pay7 x2) k))
      (k0_pay8, k0_pay8, k0_pay8) := rfl

/-- The literal for "farther than every point" is infinite. -/
theorem pay8_apply (i : S256x128.Idx) : k0_pay8 (F := Ideal) i = ⊤ := by
  show Named.named (F := Ideal) κ "farthest" 0x7F61B1E6#32 = ⊤
  exact IdealRules.named_const.ideal_named_scalar _ _ _ _ rfl

/-- One insertion at one row and lane. -/
theorem insV_apply (t : V3) (d : FVec Ideal S256x128 .f32) (i : S256x128.Idx) :
    ((insV t d).1 i, (insV t d).2.1 i, (insV t d).2.2 i) = ins (t.1 i, t.2.1 i, t.2.2 i) (d i) := rfl

/-- The triple of one row and one lane is a run of insertions over that lane's 32 values. -/
theorem tri_apply (mm : Vec Ideal S256x4096 .f32) (x2 : Vec Ideal S8x4096 .f32) (i : S256x128.Idx) :
    ((tri mm x2).1 i, (tri mm x2).2.1 i, (tri mm x2).2.2 i) =
      ((List.finRange 32).map fun k => dAt mm (k0_pay7 x2) k i).foldl ins (⊤, ⊤, ⊤) := by
  rw [tri_eq, List.foldl_map]
  have key : ∀ (L : List (Fin 32)) (t : V3) (t' : EReal × EReal × EReal), (t.1 i, t.2.1 i, t.2.2 i) = t' →
      (let r := L.foldl (fun t k => insV t (dAt mm (k0_pay7 x2) k)) t; (r.1 i, r.2.1 i, r.2.2 i)) =
        L.foldl (fun t k => ins t (dAt mm (k0_pay7 x2) k i)) t' := by
    intro L
    induction L with
    | nil => intro t t' h; exact h
    | cons k L ih => intro t t' h; exact ih _ _ (by rw [insV_apply, h])
  exact key _ _ _ (by simp only [pay8_apply])

/-- A chunk's value at a row and a lane. -/
theorem dAt_apply (mm : Vec Ideal S256x4096 .f32) (n2 : FVec Ideal S1x4096 .f32) (k : Fin 32) (p : Fin 256) (l : Fin 128) :
    dAt mm n2 k (ix2 p l) = mm (ix2 p ⟨128 * k.val + l.val, by omega⟩) + n2 (ix2 0 ⟨128 * k.val + l.val, by omega⟩) := by
  pointwise [dAt, chunkAt]

end Cert.KernelIdeal.Hand
-- ==== Proof.Consume.lean ====
/-
  What a consuming point stores, read at one query and one output channel.
-/
module

public import proofs.«01_k».proof.Proof.Lanes

@[expose] public section

set_option maxRecDepth 65536

noncomputable section

namespace Cert.KernelIdeal.Hand

open Cert.KernelIdeal.Gen Cert.Nearest
open Idealize.ShloMosaic

variable (mm : Vec Ideal S256x4096 .f32) (x2 : Vec Ideal S8x4096 .f32)

/-- The 384 candidates of each row: its 128 triples side by side. -/
abbrev cand : FVec Ideal S256x384 .f32 := k0_pay140 (net mm x2).1 (net mm x2).2.1 (net mm x2).2.2.1 (net mm x2).2.2.2

/-- The smallest of each row's candidates. -/
abbrev min1 : FVec Ideal S256x1 .f32 := k0_pay141 (net mm x2).1 (net mm x2).2.1 (net mm x2).2.2.1 (net mm x2).2.2.2
/-- The next smallest of them. -/
abbrev min2 : FVec Ideal S256x1 .f32 := k0_pay143 (net mm x2).1 (net mm x2).2.1 (net mm x2).2.2.1 (net mm x2).2.2.2
/-- The third smallest of them. -/
abbrev min3 : FVec Ideal S256x1 .f32 := k0_pay144 (net mm x2).1 (net mm x2).2.1 (net mm x2).2.2.1 (net mm x2).2.2.2

/-- The candidates are the lanes' three kept values, side by side. -/
theorem cand_eq : cand mm x2 = concatenate S256x384 1 [⟨S256x128, (tri mm x2).1⟩, ⟨S256x128, (tri mm x2).2.1⟩,
    ⟨S256x128, (tri mm x2).2.2⟩] concatenates_S256x128_S256x128_S256x128_S256x384_d1 := rfl

/-- The reductions' starting value is infinite. -/
theorem ofBits_top : Ideal.ofBits FTy.f32 2139095040#32 = ⊤ := by
  simp [Ideal.ofBits, Ideal.ieee]

/-- The row of a block of distances whose three smallest entries are compared: the block's row plus the column norms. -/
abbrev row (p : Fin 256) : Fin 4096 → EReal := fun j => mm (ix2 p j) + k0_pay7 x2 (ix2 0 j)

/-- The positions a lane's 32 chunks show. -/
def lane (l : Fin 128) : List (Fin 4096) := (List.finRange 32).map fun k => ⟨128 * k.val + l.val, by omega⟩

/-- A lane has no column twice. -/
theorem lane_nodup (l : Fin 128) : (lane l).Nodup := by
  refine (List.nodup_finRange 32).map fun a b hab => ?_
  have := congrArg Fin.val hab
  ext
  simp only at this
  omega

/-- Every column lies in the lane of its remainder. -/
theorem mem_lane (j : Fin 4096) : j ∈ lane ⟨j.val % 128, Nat.mod_lt _ (by decide)⟩ :=
  List.mem_map.mpr ⟨⟨j.val / 128, by omega⟩, List.mem_finRange _, Fin.ext (Nat.div_add_mod j.val 128)⟩

/-- A lane's triple is a run of insertions over the row's values at the lane's positions. -/
theorem tri_row (p : Fin 256) (l : Fin 128) :
    ((tri mm x2).1 (ix2 p l), (tri mm x2).2.1 (ix2 p l), (tri mm x2).2.2 (ix2 p l)) =
      ((lane l).map (row mm x2 p)).foldl ins (⊤, ⊤, ⊤) := by
  rw [tri_apply, lane, List.map_map]
  congr 1
  refine List.map_congr_left fun k _ => ?_
  exact dAt_apply mm (k0_pay7 x2) k p l

/-- A candidate at an index: a lane's first, second or third kept value. -/
theorem cand_apply (p : Fin 256) (c : Fin 384) : cand mm x2 (ix2 p c) =
    (if h : (c : ℕ) < 128 then (tri mm x2).1 (ix2 p ⟨c, h⟩)
    else if h : (c : ℕ) - 128 < 128 then (tri mm x2).2.1 (ix2 p ⟨c - 128, h⟩)
      else (tri mm x2).2.2 (ix2 p ⟨c - 128 - 128, by omega⟩)) := by
  rw [cand_eq]
  pointwise []

variable {mm x2} {p : Fin 256} {s : Fin 3 → Fin 4096} (hT : Three (row mm x2 p) s) (ht : row mm x2 p (s 2) < ⊤)
include hT ht

/-- Every candidate is a value of the row, or infinite. -/
theorem cand_mem (c : Fin 384) : cand mm x2 (ix2 p c) = ⊤ ∨ ∃ j, cand mm x2 (ix2 p c) = row mm x2 p j := by
  have g := fun l => mem_row hT ht (lane_nodup l)
  rw [cand_apply]
  split
  · rename_i h
    have := (g ⟨c, h⟩).1
    rwa [← tri_row] at this
  · split
    · rename_i h
      have := (g ⟨c - 128, h⟩).2.1
      rwa [← tri_row] at this
    · have := (g ⟨c - 128 - 128, by omega⟩).2.2
      rwa [← tri_row] at this

/-- The three smallest values of the row are among the candidates. -/
theorem cand_has (k : Fin 3) : ∃ c : Fin 384, cand mm x2 (ix2 p c) = row mm x2 p (s k) := by
  have h := hT.held ht (lane_nodup _) (mem_lane (s k))
  simp only [← tri_row] at h
  have hl : (s k).val % 128 < 128 := Nat.mod_lt _ (by decide)
  rcases h with h | h | h
  · refine ⟨⟨(s k).val % 128, by omega⟩, ?_⟩
    rw [cand_apply, h, dif_pos hl]
  · refine ⟨⟨(s k).val % 128 + 128, by omega⟩, ?_⟩
    rw [cand_apply, h, dif_neg (by simp), dif_pos (by simpa using hl)]
    simp
  · refine ⟨⟨(s k).val % 128 + 128 + 128, by omega⟩, ?_⟩
    rw [cand_apply, h, dif_neg (by show ¬ _ + 128 + 128 < 128; omega), dif_neg (by show ¬ _ + 128 + 128 - 128 < 128; omega)]
    simp

/-- The three minima are the row's three smallest values. -/
theorem minima : min1 mm x2 (ix2 p 0) = row mm x2 p (s 0) ∧ min2 mm x2 (ix2 p 0) = row mm x2 p (s 1) ∧
    min3 mm x2 (ix2 p 0) = row mm x2 p (s 2) := by
  have far : Named.named (F := Ideal) (φ := .f32) κ "farthest" 2137108966#32 = (⊤ : EReal) :=
    IdealRules.named_const.ideal_named_scalar _ _ _ _ rfl
  obtain ⟨h1, h2, h3⟩ := hT.minima (fun c => cand mm x2 (ix2 p c)) (cand_mem hT ht) (cand_has hT ht)
  have e1 : min1 mm x2 (ix2 p 0) = row mm x2 p (s 0) := by
    rw [← h1]
    unfold min1
    pointwise [k0_pay141]
    rw [ofBits_top]
  have c2 : ∀ c, k0_pay142 (net mm x2).1 (net mm x2).2.1 (net mm x2).2.2.1 (net mm x2).2.2.2 (ix2 p c) =
      if cand mm x2 (ix2 p c) = row mm x2 p (s 0) then ⊤ else cand mm x2 (ix2 p c) := by
    intro c
    rw [← e1]
    pointwise [k0_pay142]
    rw [far]
  have e2 : min2 mm x2 (ix2 p 0) = row mm x2 p (s 1) := by
    rw [← h2]
    unfold min2
    pointwise [k0_pay143]
    simp only [c2, ofBits_top]
  refine ⟨e1, e2, ?_⟩
  rw [← h3]
  unfold min3
  pointwise [k0_pay144]
  simp only [c2, ofBits_top, far]
  simp only [min2] at e2
  rw [e2]

omit ht in
/-- The reciprocal distance of the `k`-th nearest point, at a query whose own norm is `nn`. -/
def recip (e : Fin 4096 → EReal) (s : Fin 3 → Fin 4096) (nn : EReal) (k : Fin 3) : EReal :=
  Ideal.div 1 (e (s k) + nn + Ideal.ofBits FTy.f32 841731191#32)

/-- What a consuming point stores for query `p` of its tile and output channel `q`. -/
theorem consume_apply (n1 : Vec Ideal S256x1 .f32) (p1b : Vec Ideal S256x128 .f32)
    (p2t : Vec Ideal S4096x256 .f32) (w0 : Vec Ideal S384x256 .f32) (b0 : Vec Ideal S1x256 .f32) (w1 : Vec Ideal S256x128 .f32)
    (b1 : Vec Ideal S1x128 .f32) (q : Fin 128)
    (r : Fin 3 → EReal) (hr : ∀ k, recip (row mm x2 p) s (n1 (ix2 p 0)) k = r k) :
    consume mm n1 x2 p1b p2t w0 b0 w1 b1 (ix2 q p) =
      max (∑ x : Fin 256, max (∑ c : Fin 128, p1b (ix2 p c) * w0 (ix2 ⟨c, by omega⟩ x) +
          ∑ c : Fin 256, (r 0 * p2t (ix2 (s 0) c) + (r 1 * p2t (ix2 (s 1) c) + r 2 * p2t (ix2 (s 2) c))) *
            Ideal.div 1 (r 0 + r 1 + r 2) * w0 (ix2 ⟨128 + c, by omega⟩ x) + b0 (ix2 0 x)) 0 * w1 (ix2 x q) +
        b1 (ix2 0 q)) 0 := by
  obtain ⟨e1, e2, e3⟩ := minima hT ht
  have r0 : k0_pay145 n1 (net mm x2).1 (net mm x2).2.1 (net mm x2).2.2.1 (net mm x2).2.2.2 (ix2 p 0) = r 0 := by
    rw [← hr 0, recip, ← e1]
    pointwise [k0_pay145]
  have r1 : k0_pay146 n1 (net mm x2).1 (net mm x2).2.1 (net mm x2).2.2.1 (net mm x2).2.2.2 (ix2 p 0) = r 1 := by
    rw [← hr 1, recip, ← e2]
    pointwise [k0_pay146]
  have r2 : k0_pay147 n1 (net mm x2).1 (net mm x2).2.1 (net mm x2).2.2.1 (net mm x2).2.2.2 (ix2 p 0) = r 2 := by
    rw [← hr 2, recip, ← e3]
    pointwise [k0_pay147]
  have w1' : ∀ j, k0_pay149 (k0_pay7 x2) (net mm x2).1 (net mm x2).2.1 (net mm x2).2.2.1 (net mm x2).2.2.2 mm (ix2 p j) =
      BitVec.ofBool (decide (row mm x2 p j = row mm x2 p (s 0))) := by
    intro j
    rw [← e1]
    pointwise [k0_pay149, k0_pay148]
  have w2' : ∀ j, k0_pay150 (k0_pay7 x2) (net mm x2).1 (net mm x2).2.1 (net mm x2).2.2.1 (net mm x2).2.2.2 mm (ix2 p j) =
      BitVec.ofBool (decide (row mm x2 p j = row mm x2 p (s 1))) := by
    intro j
    rw [← e2]
    pointwise [k0_pay150, k0_pay148]
  have w3' : ∀ j, k0_pay151 (k0_pay7 x2) (net mm x2).1 (net mm x2).2.1 (net mm x2).2.2.1 (net mm x2).2.2.2 mm (ix2 p j) =
      BitVec.ofBool (decide (row mm x2 p j = row mm x2 p (s 2))) := by
    intro j
    rw [← e3]
    pointwise [k0_pay151, k0_pay148]
  have sel : ∀ (P : Prop) [Decidable P] (a b : EReal), Scalar.select (BitVec.ofBool (decide P)) a b = if P then a else b := by
    intro P _ a b
    by_cases h : P <;> simp [Scalar.select, h]
  unfold consume
  pointwise [k0_pay153, k0_pay152]
  simp only [r0, r1, r2, w1', w2', w3', sel]
  simp only [hT.sum_select r]

end Cert.KernelIdeal.Hand
-- ==== Proof.Entry.lean ====
/-
  The arrays the kernel's windows move, read at an index as terms over the arguments' elements.
-/
module

public import proofs.«01_k».proof.Proof.RunIdeal
public import proofs.«01_k».proof.Proof.Consume
public import Idealize.ShloMosaic.Lib.Pipeline.ValueKit
public import Idealize.ShloMosaic.Lib.StableHlo.ReadAt

@[expose] public section

set_option maxRecDepth 65536

noncomputable section

namespace Cert.KernelIdeal.Hand

open Cert.KernelIdeal.Gen Cert.Nearest
open Idealize.ShloMosaic Idealize.ShloMosaic.TcCoe

variable (m : (ℓ : Loc nD τ sig) → Buf (Elt Ideal) ℓ) (c : Dev nD)

/-! ## The arguments -/

/-- The query points' coordinates. -/
abbrev A0 : (⟨2, ![3, 16384]⟩ : Shape).Idx → EReal := m ((c.tc : Thread nD τ).loc main_arg0)
/-- The known points' coordinates. -/
abbrev A1 : (⟨2, ![3, 4096]⟩ : Shape).Idx → EReal := m ((c.tc : Thread nD τ).loc main_arg1)
/-- The query features. -/
abbrev A2 : (⟨2, ![128, 16384]⟩ : Shape).Idx → EReal := m ((c.tc : Thread nD τ).loc main_arg2)
/-- The known features. -/
abbrev A3 : (⟨2, ![256, 4096]⟩ : Shape).Idx → EReal := m ((c.tc : Thread nD τ).loc main_arg3)
/-- The first layer's weight. -/
abbrev A4 : (⟨2, ![384, 256]⟩ : Shape).Idx → EReal := m ((c.tc : Thread nD τ).loc main_arg4)
/-- The first layer's bias. -/
abbrev A5 : (⟨1, ![256]⟩ : Shape).Idx → EReal := m ((c.tc : Thread nD τ).loc main_arg5)
/-- The first layer's scale. -/
abbrev A6 : (⟨1, ![256]⟩ : Shape).Idx → EReal := m ((c.tc : Thread nD τ).loc main_arg6)
/-- The first layer's shift. -/
abbrev A7 : (⟨1, ![256]⟩ : Shape).Idx → EReal := m ((c.tc : Thread nD τ).loc main_arg7)
/-- The first layer's mean. -/
abbrev A8 : (⟨1, ![256]⟩ : Shape).Idx → EReal := m ((c.tc : Thread nD τ).loc main_arg8)
/-- The first layer's variance. -/
abbrev A9 : (⟨1, ![256]⟩ : Shape).Idx → EReal := m ((c.tc : Thread nD τ).loc main_arg9)
/-- The second layer's weight. -/
abbrev A10 : (⟨2, ![256, 128]⟩ : Shape).Idx → EReal := m ((c.tc : Thread nD τ).loc main_arg10)
/-- The second layer's bias. -/
abbrev A11 : (⟨1, ![128]⟩ : Shape).Idx → EReal := m ((c.tc : Thread nD τ).loc main_arg11)
/-- The second layer's scale. -/
abbrev A12 : (⟨1, ![128]⟩ : Shape).Idx → EReal := m ((c.tc : Thread nD τ).loc main_arg12)
/-- The second layer's shift. -/
abbrev A13 : (⟨1, ![128]⟩ : Shape).Idx → EReal := m ((c.tc : Thread nD τ).loc main_arg13)
/-- The second layer's mean. -/
abbrev A14 : (⟨1, ![128]⟩ : Shape).Idx → EReal := m ((c.tc : Thread nD τ).loc main_arg14)
/-- The second layer's variance. -/
abbrev A15 : (⟨1, ![128]⟩ : Shape).Idx → EReal := m ((c.tc : Thread nD τ).loc main_arg15)

/-- The integer zero as a float is zero. -/
theorem sitofp_zero : FloatOps.sitofp (F := Ideal) FTy.f32 (0#32) = 0 := by
  simp [FloatOps.sitofp]

/-! ## The arrays the host computes before the launch -/

/-- The query points' coordinates, one query a row, filled up with zeros to eight columns. -/
theorem V_x1 (n : Fin 16384) (k : Fin 8) : V m c main_v23 (ix2 n k) =
    if h : k.val < 3 then A0 m c (ix2 ⟨k.val, h⟩ n) else 0 := by
  unfold V
  after_reads_at
  simp only [sitofp_zero]

/-- The known points' coordinates, one known point a column, filled up with zeros to eight rows. -/
theorem V_x2 (n : Fin 4096) (k : Fin 8) : V m c main_v24 (ix2 k n) =
    if h : k.val < 3 then A1 m c (ix2 ⟨k.val, h⟩ n) else 0 := by
  unfold V
  after_reads_at
  simp only [sitofp_zero]

/-- The query features, one query a row. -/
theorem V_p1 (n : Fin 16384) (k : Fin 128) : V m c main_v25 (ix2 n k) = A2 m c (ix2 k n) := by
  unfold V
  after_reads_at

/-- The known points' features, one known point a row. -/
theorem V_p2 (n : Fin 4096) (k : Fin 256) : V m c main_v26 (ix2 n k) = A3 m c (ix2 k n) := by
  unfold V
  after_reads_at

/-- A layer's batch normalisation as one factor. -/
def factor (g v : EReal) : EReal := Ideal.div g (Ideal.sqrt (v + Ideal.ofBits FTy.f32 925353388#32))

/-- The first layer's weight, scaled by its normalisation factor. -/
theorem V_w0 (n : Fin 384) (k : Fin 256) : V m c main_v6 (ix2 n k) =
    A4 m c (ix2 n k) * factor (A6 m c (ix1 k)) (A9 m c (ix1 k)) := by
  unfold V
  after_reads_at
  rfl

/-- The first layer's folded bias. -/
theorem V_b0 (k : Fin 256) : V m c main_v10 (ix2 0 k) =
    (A5 m c (ix1 k) - A8 m c (ix1 k)) * factor (A6 m c (ix1 k)) (A9 m c (ix1 k))
      + A7 m c (ix1 k) := by
  unfold V
  after_reads_at
  rfl

/-- The second layer's weight, scaled by its normalisation factor. -/
theorem V_w1 (n : Fin 256) (k : Fin 128) : V m c main_v17 (ix2 n k) =
    A10 m c (ix2 n k) * factor (A12 m c (ix1 k)) (A15 m c (ix1 k)) := by
  unfold V
  after_reads_at
  rfl

/-- The second layer's folded bias. -/
theorem V_b1 (k : Fin 128) : V m c main_v21 (ix2 0 k) =
    (A11 m c (ix1 k) - A14 m c (ix1 k)) * factor (A12 m c (ix1 k)) (A15 m c (ix1 k))
      + A13 m c (ix1 k) := by
  unfold V
  after_reads_at
  rfl

/-! ## The blocks at a grid point -/

/-- Where each window's block lies at a grid point. -/
theorem idx : ∀ t : Fin cfg0.N, win0_0.index t = ![min t.val 63, 0] ∧ win0_1.index t = ![0, 0] ∧ win0_2.index t = ![t.val - 1, 0]
    ∧ win0_3.index t = ![0, 0] ∧ win0_4.index t = ![0, 0] ∧ win0_5.index t = ![0, 0] ∧ win0_6.index t = ![0, 0] ∧ win0_7.index t = ![0, 0]
    ∧ win0_8.index t = ![0, t.val - 1] := by
  decide +kernel

variable (t : Fin cfg0.N)

/-- The query block of a point is its tile's rows. -/
theorem blk_x1 (p : Fin 256) (k : Fin 8) (n : Fin 16384) (hn : n.val = min t.val 63 * 256 + p.val) :
    iblk m c 0 t (ix2 p k) = V m c main_v23 (ix2 n k) := by
  blk_ext [iblk, idx t]

/-- The known points' block is the whole array. -/
theorem blk_x2 (k : Fin 8) (j : Fin 4096) : iblk m c 1 t (ix2 k j) = V m c main_v24 (ix2 k j) := by
  blk_ext [iblk, idx t]

/-- The query features' block of a point is the rows of the tile before. -/
theorem blk_p1 (p : Fin 256) (k : Fin 128) (n : Fin 16384) (hn : n.val = (t.val - 1) * 256 + p.val) :
    iblk m c 2 t (ix2 p k) = V m c main_v25 (ix2 n k) := by
  blk_ext [iblk, idx t]

/-- The known features' block is the whole array. -/
theorem blk_p2 (j : Fin 4096) (k : Fin 256) : iblk m c 3 t (ix2 j k) = V m c main_v26 (ix2 j k) := by
  blk_ext [iblk, idx t]

/-- The first weight's block is the whole array. -/
theorem blk_w0 (j : Fin 384) (k : Fin 256) : iblk m c 4 t (ix2 j k) = V m c main_v6 (ix2 j k) := by
  blk_ext [iblk, idx t]

/-- The first bias's block is the whole array. -/
theorem blk_b0 (k : Fin 256) : iblk m c 5 t (ix2 0 k) = V m c main_v10 (ix2 0 k) := by
  blk_ext [iblk, idx t]

/-- The second weight's block is the whole array. -/
theorem blk_w1 (j : Fin 256) (k : Fin 128) : iblk m c 6 t (ix2 j k) = V m c main_v17 (ix2 j k) := by
  blk_ext [iblk, idx t]

/-- The second bias's block is the whole array. -/
theorem blk_b1 (k : Fin 128) : iblk m c 7 t (ix2 0 k) = V m c main_v21 (ix2 0 k) := by
  blk_ext [iblk, idx t]

/-! ## The distances at a grid point -/

/-- A query point's coordinates filled up with zeros. -/
def pad1 (n : Fin 16384) (k : Fin 8) : EReal := if h : k.val < 3 then A0 m c (ix2 ⟨k.val, h⟩ n) else 0

/-- A known point's coordinates filled up with zeros. -/
def pad2 (j : Fin 4096) (k : Fin 8) : EReal := if h : k.val < 3 then A1 m c (ix2 ⟨k.val, h⟩ j) else 0

/-- The query block at an index, over the arguments. -/
theorem x1_apply (p : Fin 256) (k : Fin 8) (n : Fin 16384) (hn : n.val = min t.val 63 * 256 + p.val) :
    iblk m c 0 t (ix2 p k) = pad1 m c n k :=
  (blk_x1 m c t p k n hn).trans (V_x1 m c n k)

/-- The known points' block at an index, over the arguments. -/
theorem x2_apply (k : Fin 8) (j : Fin 4096) : iblk m c 1 t (ix2 k j) = pad2 m c j k :=
  (blk_x2 m c t k j).trans (V_x2 m c j k)

/-- A sum over eight of which the last five are zero. -/
theorem sum_eight (f : Fin 8 → EReal) (g : Fin 3 → EReal) (h : ∀ k : Fin 8, f k = if h : k.val < 3 then g ⟨k.val, h⟩ else 0) :
    ∑ k, f k = ∑ k, g k := by
  simp only [h, Fin.sum_univ_eight, Fin.sum_univ_three]
  simp

/-- The distances a point works with: `-2 x·y + |y|²`. -/
theorem row_apply (t' : Fin cfg0.N) (p : Fin 256) (j : Fin 4096) (n : Fin 16384) (hn : n.val = min t.val 63 * 256 + p.val) :
    row (mmOf m c t) (iblk m c 1 t') p j =
      ∑ k : Fin 3, A0 m c (ix2 k n) * Ideal.ofBits FTy.f32 3221225472#32 * A1 m c (ix2 k j)
        + ∑ k : Fin 3, A1 m c (ix2 k j) * A1 m c (ix2 k j) := by
  unfold row mmOf
  pointwise [k0_pay2, k0_pay1, k0_pay7]
  simp only [x1_apply m c t p _ n hn, x2_apply]
  congr 1
  · refine sum_eight _ _ fun k => ?_
    unfold pad1 pad2; split <;> simp
  · refine sum_eight _ _ fun k => ?_
    unfold pad2; split <;> simp

/-- The query norms a point keeps. -/
theorem nn_apply (p : Fin 256) (n : Fin 16384) (hn : n.val = min t.val 63 * 256 + p.val) :
    nnOf m c t (ix2 p 0) = ∑ k : Fin 3, A0 m c (ix2 k n) * A0 m c (ix2 k n) := by
  unfold nnOf
  pointwise [k0_pay3, k0_pay1]
  simp only [x1_apply m c t p _ n hn]
  refine sum_eight _ _ fun k => ?_
  unfold pad1; split <;> simp

end Cert.KernelIdeal.Hand
-- ==== Proof.Net.lean ====
module

public import proofs.«01_k».proof.Proof.Refval
public import proofs.«01_k».proof.Proof.Entry

@[expose] public section

noncomputable section

namespace Cert.Nearest

open Idealize.ShloMosaic Cert.ReferenceIdeal.Hand Cert.KernelIdeal.Hand

/-! # The network over the extended reals

The kernel folds each layer's batch normalisation into its weight and bias; the reference applies it to the layer's
result. The two agree when what is multiplied out is real. -/

/-- The sum of reals, as an extended real, is the sum of the extended reals. -/
theorem coe_sum {n : ℕ} (f : Fin n → ℝ) : ((∑ i, f i : ℝ) : EReal) = ∑ i, (f i : EReal) := by
  classical
  refine Finset.induction_on (Finset.univ : Finset (Fin n)) (by simp) fun a s ha ih => ?_
  rw [Finset.sum_insert ha, Finset.sum_insert ha, EReal.coe_add, ih]

/-- A sum of products of reals is a real. -/
theorem sum_mul {n : ℕ} (f w : Fin n → ℝ) : ∑ i, (f i : EReal) * (w i : EReal) = ((∑ i, f i * w i : ℝ) : EReal) := by
  rw [coe_sum]
  simp only [EReal.coe_mul]

/-- A real factor common to a sum of products of reals comes out. -/
theorem sum_mul_factor {n : ℕ} (f w : Fin n → ℝ) (a : ℝ) :
    ∑ i, (f i : EReal) * ((w i : EReal) * (a : EReal)) = ((∑ i, f i * w i : ℝ) : EReal) * (a : EReal) := by
  rw [← EReal.coe_mul, Finset.sum_mul, coe_sum]
  simp only [← EReal.coe_mul, mul_assoc]

/-- A real factor distributes over the sum of a real and any extended real. -/
theorem add_mul_real (s : ℝ) (y : EReal) (a : ℝ) : ((s : EReal) + y) * (a : EReal) = (s : EReal) * a + y * a := by
  induction y with
  | coe y => simp only [← EReal.coe_add, ← EReal.coe_mul, add_mul]
  | bot =>
    rw [EReal.add_bot]
    rcases lt_trichotomy a 0 with h | rfl | h
    · rw [EReal.bot_mul_coe_of_neg h, ← EReal.coe_mul, EReal.coe_add_top]
    · simp
    · rw [EReal.bot_mul_coe_of_pos h, EReal.add_bot]
  | top =>
    rw [EReal.coe_add_top]
    rcases lt_trichotomy a 0 with h | rfl | h
    · rw [EReal.top_mul_coe_of_neg h, EReal.add_bot]
    · simp
    · rw [EReal.top_mul_coe_of_pos h, ← EReal.coe_mul, EReal.coe_add_top]

/-- Dividing by the root of a non-zero extended real is multiplying by a real. -/
theorem div_sqrt (y : EReal) (hy : y ≠ 0) : ∃ i : ℝ, ∀ x, Ideal.div x (Ideal.sqrt y) = x * (i : EReal) := by
  have bot : ∀ x, Ideal.div x ⊥ = x * ((0 : ℝ) : EReal) := fun x => by simp [Ideal.div]
  have top : ∀ x, Ideal.div x ⊤ = x * ((0 : ℝ) : EReal) := fun x => by simp [Ideal.div]
  induction y with
  | bot => exact ⟨0, by rw [Ideal.sqrt_bot]; exact bot⟩
  | top => exact ⟨0, by rw [Ideal.sqrt_top]; exact top⟩
  | coe r =>
    rw [Ideal.sqrt_coe]
    by_cases h : r < 0
    · rw [if_pos h]; exact ⟨0, bot⟩
    · rw [if_neg h]
      have hr : r ≠ 0 := fun e => hy (by rw [e]; rfl)
      exact ⟨1 / Real.sqrt r, Ideal.div_coe (Real.sqrt_ne_zero'.mpr (lt_of_le_of_ne (not_lt.mp h) (Ne.symm hr)))⟩

/-- A layer's factor is a real, and the reference's layer is the kernel's: the sum times the factor, plus the folded
    bias. -/
theorem bnLayer_eq (g : ℝ) (v : EReal) (hv : v + Ideal.ofBits FTy.f32 925353388#32 ≠ 0) : ∃ a : ℝ, factor g v = (a : EReal) ∧
    ∀ (s : ℝ) (b μ β : EReal), bnLayer s b μ v g β = (s : EReal) * a + ((b - μ) * a + β) := by
  obtain ⟨i, hi⟩ := div_sqrt _ hv
  refine ⟨g * i, by rw [factor, hi, EReal.coe_mul], fun s b μ β => ?_⟩
  unfold bnLayer
  rw [hi, sub_eq_add_neg, add_assoc (s : EReal) b, ← sub_eq_add_neg, mul_assoc, ← EReal.coe_mul, mul_comm i g, add_mul_real, add_assoc]

/-- The whole network: folded as the kernel has it, and layer by layer as the reference has it. -/
theorem net_eq (f : Fin 128 → ℝ) (u : Fin 256 → ℝ) (W : Fin 384 → Fin 256 → ℝ) (b0 μ0 g0 β0 : Fin 256 → ℝ) (v0 : Fin 256 → EReal)
    (w : Fin 256 → ℝ) (g1 : ℝ) (b1 μ1 v1 β1 : EReal) (h0 : ∀ x, v0 x + Ideal.ofBits FTy.f32 925353388#32 ≠ 0)
    (h1 : v1 + Ideal.ofBits FTy.f32 925353388#32 ≠ 0) :
    max (∑ x : Fin 256, max (∑ c : Fin 128, (f c : EReal) * ((W ⟨c.val, by omega⟩ x : EReal) * factor (g0 x) (v0 x))
        + ∑ c : Fin 256, (u c : EReal) * ((W ⟨128 + c.val, by omega⟩ x : EReal) * factor (g0 x) (v0 x))
        + (((b0 x : EReal) - (μ0 x : EReal)) * factor (g0 x) (v0 x) + (β0 x : EReal))) 0 * ((w x : EReal) * factor g1 v1)
      + ((b1 - μ1) * factor g1 v1 + β1)) 0
    = max (bnLayer (∑ x : Fin 256, max (bnLayer (∑ c : Fin 128, (f c : EReal) * (W ⟨c.val, by omega⟩ x : EReal)
        + ∑ c : Fin 256, (u c : EReal) * (W ⟨128 + c.val, by omega⟩ x : EReal)) (b0 x) (μ0 x) (v0 x) (g0 x) (β0 x)) 0 * (w x : EReal))
      b1 μ1 v1 g1 β1) 0 := by
  choose a ha hn using fun x => bnLayer_eq (g0 x) (v0 x) (h0 x)
  obtain ⟨a1, ha1, hn1⟩ := bnLayer_eq g1 v1 h1
  have key : ∀ x, ∃ h : ℝ, max (∑ c : Fin 128, (f c : EReal) * ((W ⟨c.val, by omega⟩ x : EReal) * factor (g0 x) (v0 x))
        + ∑ c : Fin 256, (u c : EReal) * ((W ⟨128 + c.val, by omega⟩ x : EReal) * factor (g0 x) (v0 x))
        + (((b0 x : EReal) - (μ0 x : EReal)) * factor (g0 x) (v0 x) + (β0 x : EReal))) 0 = (h : EReal)
      ∧ max (bnLayer (∑ c : Fin 128, (f c : EReal) * (W ⟨c.val, by omega⟩ x : EReal)
        + ∑ c : Fin 256, (u c : EReal) * (W ⟨128 + c.val, by omega⟩ x : EReal)) (b0 x) (μ0 x) (v0 x) (g0 x) (β0 x)) 0 = (h : EReal) := by
    intro x
    rw [ha x, sum_mul f, sum_mul u, ← EReal.coe_add, hn, sum_mul_factor f, sum_mul_factor u, ← EReal.coe_mul, ← EReal.coe_mul,
      ← EReal.coe_mul, ← EReal.coe_add, ← EReal.coe_sub, ← EReal.coe_mul, ← EReal.coe_add, ← EReal.coe_add, ← EReal.coe_add, ← EReal.coe_zero,
      ← EReal.coe_strictMono.monotone.map_max, ← EReal.coe_strictMono.monotone.map_max]
    exact ⟨_, rfl, by rw [add_mul]⟩
  choose h hk hr using key
  simp only [hk, hr, ha1]
  rw [sum_mul_factor h w, sum_mul h w, hn1]

/-! # The interpolated feature -/

/-- The kernel's weighting (the weighted sum times the reciprocal of the weights' sum) is the reference's (each weight
    divided by the sum), and real. -/
theorem weighted (r P : Fin 3 → ℝ) (hr : ∀ k, 0 < r k) :
    ∃ z : ℝ, ((r 0 : EReal) * (P 0 : EReal) + ((r 1 : EReal) * (P 1 : EReal) + (r 2 : EReal) * (P 2 : EReal))) *
        Ideal.div 1 ((r 0 : EReal) + (r 1 : EReal) + (r 2 : EReal)) = (z : EReal)
      ∧ ∑ k : Fin 3, (P k : EReal) * Ideal.div (r k : EReal) (∑ k' : Fin 3, (r k' : EReal)) = (z : EReal) := by
  have hs : r 0 + r 1 + r 2 ≠ 0 := by have := hr 0; have := hr 1; have := hr 2; positivity
  refine ⟨(r 0 * P 0 + (r 1 * P 1 + r 2 * P 2)) * (1 / (r 0 + r 1 + r 2)), ?_, ?_⟩
  · rw [← EReal.coe_add, ← EReal.coe_add, Ideal.div_coe hs, one_mul]
    simp only [← EReal.coe_add, ← EReal.coe_mul]
  · simp only [Fin.sum_univ_three, ← EReal.coe_add, Ideal.div_coe hs, ← EReal.coe_mul]
    rw [EReal.coe_eq_coe_iff]
    ring

/-- The constant minus two. -/
theorem neg_two : Ideal.ofBits FTy.f32 3221225472#32 = ((-2 : ℝ) : EReal) := by
  simp [Ideal.ofBits, Ideal.ieee]
  rw [← EReal.coe_mul]; norm_num

/-- The number added to a distance before its reciprocal is a positive real. -/
theorem small_pos : ∃ e : ℝ, 0 < e ∧ Ideal.ofBits FTy.f32 841731191#32 = (e : EReal) := by
  refine ⟨11258999 * (2 ^ 50)⁻¹, by positivity, ?_⟩
  simp [Ideal.ofBits, Ideal.ieee]

/-- The squared distance of two points: real, not negative, and the reference's expression of it and the kernel's. -/
theorem sq_dist (x y : Fin 3 → ℝ) : ∃ d e n : ℝ, 0 ≤ d ∧ d = e + n ∧
    Ideal.ofBits FTy.f32 3221225472#32 * ∑ k, (x k : EReal) * (y k : EReal) + ∑ k, (x k : EReal) * (x k : EReal)
        + ∑ k, (y k : EReal) * (y k : EReal) = (d : EReal)
      ∧ ∑ k, (x k : EReal) * Ideal.ofBits FTy.f32 3221225472#32 * (y k : EReal) + ∑ k, (y k : EReal) * (y k : EReal) = (e : EReal)
      ∧ ∑ k, (x k : EReal) * (x k : EReal) = (n : EReal) := by
  simp only [neg_two, Fin.sum_univ_three, ← EReal.coe_add, ← EReal.coe_mul]
  refine ⟨_, _, _, ?_, ?_, rfl, rfl, rfl⟩
  · nlinarith [sq_nonneg (x 0 - y 0), sq_nonneg (x 1 - y 1), sq_nonneg (x 2 - y 2)]
  · ring

end Cert.Nearest
-- ==== Proof.Given.lean ====
module

public import proofs.«01_k».proof.Proof.Refval
public import proofs.«01_k».proof.Proof.Gen.Pre_nearest_distinct
public import Idealize.ShloMosaic.Lib.ReduceAll

@[expose] public section

set_option maxRecDepth 65536

noncomputable section

namespace Cert.Nearest

open Idealize.ShloMosaic Cert.Pre_nearest_distinct

/-! # What the precondition says -/

/-- An extended real whose absolute value is below infinity is a real. -/
theorem real_of_bit {x : EReal} (h : FloatOps.cmpf (F := Ideal) (φ := .f32) .olt (FloatOps.hostAbsf (F := Ideal) (φ := .f32) x)
    (FloatOps.ofBits (F := Ideal) .f32 0x7F800000#32) = 1#1) : ∃ r : ℝ, x = (r : EReal) := by
  have h' : BitVec.ofBool (decide (max x (-x) < Ideal.ofBits .f32 0x7F800000#32)) = 1#1 := h
  have ht : Ideal.ofBits .f32 0x7F800000#32 = ⊤ := by simp [Ideal.ofBits, Ideal.ieee]
  rw [ht] at h'
  induction x with
  | coe r => exact ⟨r, rfl⟩
  | bot => simp at h'
  | top => simp at h'

/-- An extended real found unlike zero is not zero. -/
theorem ne_of_bit {x : EReal} (h : FloatOps.cmpf (F := Ideal) (φ := .f32) .une x (FloatOps.ofBits (F := Ideal) .f32 0#32) = 1#1) : x ≠ 0 := by
  rintro rfl
  have h' : BitVec.ofBool (decide ((0 : EReal) ≠ Ideal.ofBits .f32 0#32)) = 1#1 := h
  have hz : Ideal.ofBits .f32 0#32 = 0 := by simp [Ideal.ofBits, Ideal.ieee]
  rw [hz] at h'
  simp at h'

/-- An extended real found below another is below it. -/
theorem lt_of_bit {x y : EReal} (h : FloatOps.cmpf (F := Ideal) (φ := .f32) .olt x y = 1#1) : x < y := by
  have h' : BitVec.ofBool (decide (x < y)) = 1#1 := h
  by_contra hn
  rw [decide_eq_false hn] at h'
  exact absurd h' (by decide)

variable (x0 : (⟨S3x16384, .f32⟩ : BufTy).Contents (Elt Ideal)) (x1 : (⟨S3x4096, .f32⟩ : BufTy).Contents (Elt Ideal))
  (x2 : (⟨S128x16384, .f32⟩ : BufTy).Contents (Elt Ideal)) (x3 : (⟨S256x4096, .f32⟩ : BufTy).Contents (Elt Ideal))
  (x4 : (⟨S384x256, .f32⟩ : BufTy).Contents (Elt Ideal)) (x5 x6 x7 x8 x9 : (⟨S256, .f32⟩ : BufTy).Contents (Elt Ideal))
  (x10 : (⟨S256x128, .f32⟩ : BufTy).Contents (Elt Ideal)) (x11 x12 x13 x14 x15 : (⟨S128, .f32⟩ : BufTy).Contents (Elt Ideal))

/-- What the proof needs of the arguments: those that are multiplied out are real, no variance is the opposite of the
    number added to it, and the first four distances of a query in ascending order are strictly increasing. -/
structure Given : Prop where
  r0 : ∀ i, ∃ r : ℝ, x0 i = (r : EReal)
  r1 : ∀ i, ∃ r : ℝ, x1 i = (r : EReal)
  r2 : ∀ i, ∃ r : ℝ, x2 i = (r : EReal)
  r3 : ∀ i, ∃ r : ℝ, x3 i = (r : EReal)
  r4 : ∀ i, ∃ r : ℝ, x4 i = (r : EReal)
  r5 : ∀ i, ∃ r : ℝ, x5 i = (r : EReal)
  r6 : ∀ i, ∃ r : ℝ, x6 i = (r : EReal)
  r7 : ∀ i, ∃ r : ℝ, x7 i = (r : EReal)
  r8 : ∀ i, ∃ r : ℝ, x8 i = (r : EReal)
  r10 : ∀ i, ∃ r : ℝ, x10 i = (r : EReal)
  r12 : ∀ i, ∃ r : ℝ, x12 i = (r : EReal)
  n9 : ∀ i, (x9 i : EReal) + Ideal.ofBits FTy.f32 925353388#32 ≠ 0
  n15 : ∀ i, (x15 i : EReal) + Ideal.ofBits FTy.f32 925353388#32 ≠ 0
  strict : ∀ (n : Fin 16384) (k : Fin 3), Cert.ReferenceIdeal.Hand.dist x0 x1 n (order (Cert.ReferenceIdeal.Hand.dist x0 x1 n) ⟨k.val, by omega⟩)
    < Cert.ReferenceIdeal.Hand.dist x0 x1 n (order (Cert.ReferenceIdeal.Hand.dist x0 x1 n) ⟨k.val + 1, by omega⟩)

/-- The precondition's comparison is the order of the extended reals. -/
theorem cmp_pre (a b : EReal) : (comparator_f32_d1 (F := Ideal) a b == 1#1) = decide (a < b) := by
  unfold comparator_f32_d1
  simp only [canon]
  exact lt_bit a b

/-- The precondition's sorted array of distances, read at an index. -/
theorem sort_dist (d : (⟨2, ![16384, 4096]⟩ : Shape).Idx → EReal) (hd : ∀ n j, d (ix2 n j) = Cert.ReferenceIdeal.Hand.dist x0 x1 n j)
    (n : Fin 16384) (k : Fin 4096) : Host.sort S16384x4096 1 (comparator_f32_d1 (F := Ideal)) d (ix2 n k) =
      Cert.ReferenceIdeal.Hand.dist x0 x1 n (order (Cert.ReferenceIdeal.Hand.dist x0 x1 n) k) := by
  have e : (fun j => d (ix2 n j)) = Cert.ReferenceIdeal.Hand.dist x0 x1 n := funext (hd n)
  refine (sort_apply _ cmp_pre d n k).trans ?_
  rw [e, hd]

/-- The precondition gives all of it. -/
theorem given_of_pre
    (h : (fn (F := Ideal) x0 x1 x2 x3 x4 x5 x6 x7 x8 x9 x10 x11 x12 x13 x14 x15).1 = (fun _ => 1#1)
    ∧ (fn (F := Ideal) x0 x1 x2 x3 x4 x5 x6 x7 x8 x9 x10 x11 x12 x13 x14 x15).2.1 = (fun _ => 1#1)
    ∧ (fn (F := Ideal) x0 x1 x2 x3 x4 x5 x6 x7 x8 x9 x10 x11 x12 x13 x14 x15).2.2.1 = (fun _ => 1#1)
    ∧ (fn (F := Ideal) x0 x1 x2 x3 x4 x5 x6 x7 x8 x9 x10 x11 x12 x13 x14 x15).2.2.2.1 = (fun _ => 1#1)
    ∧ (fn (F := Ideal) x0 x1 x2 x3 x4 x5 x6 x7 x8 x9 x10 x11 x12 x13 x14 x15).2.2.2.2.1 = (fun _ => 1#1)
    ∧ (fn (F := Ideal) x0 x1 x2 x3 x4 x5 x6 x7 x8 x9 x10 x11 x12 x13 x14 x15).2.2.2.2.2.1 = (fun _ => 1#1)
    ∧ (fn (F := Ideal) x0 x1 x2 x3 x4 x5 x6 x7 x8 x9 x10 x11 x12 x13 x14 x15).2.2.2.2.2.2.1 = (fun _ => 1#1)
    ∧ (fn (F := Ideal) x0 x1 x2 x3 x4 x5 x6 x7 x8 x9 x10 x11 x12 x13 x14 x15).2.2.2.2.2.2.2.1 = (fun _ => 1#1)
    ∧ (fn (F := Ideal) x0 x1 x2 x3 x4 x5 x6 x7 x8 x9 x10 x11 x12 x13 x14 x15).2.2.2.2.2.2.2.2.1 = (fun _ => 1#1)
    ∧ (fn (F := Ideal) x0 x1 x2 x3 x4 x5 x6 x7 x8 x9 x10 x11 x12 x13 x14 x15).2.2.2.2.2.2.2.2.2.1 = (fun _ => 1#1)
    ∧ (fn (F := Ideal) x0 x1 x2 x3 x4 x5 x6 x7 x8 x9 x10 x11 x12 x13 x14 x15).2.2.2.2.2.2.2.2.2.2.1 = (fun _ => 1#1)
    ∧ (fn (F := Ideal) x0 x1 x2 x3 x4 x5 x6 x7 x8 x9 x10 x11 x12 x13 x14 x15).2.2.2.2.2.2.2.2.2.2.2.1 = (fun _ => 1#1)
    ∧ (fn (F := Ideal) x0 x1 x2 x3 x4 x5 x6 x7 x8 x9 x10 x11 x12 x13 x14 x15).2.2.2.2.2.2.2.2.2.2.2.2.1 = (fun _ => 1#1)
    ∧ (fn (F := Ideal) x0 x1 x2 x3 x4 x5 x6 x7 x8 x9 x10 x11 x12 x13 x14 x15).2.2.2.2.2.2.2.2.2.2.2.2.2 = (fun _ => 1#1)) :
    Given x0 x1 x2 x3 x4 x5 x6 x7 x8 x9 x10 x12 x15 := by
  dsimp only [fn, fn_part1, fn_part2, fn_part3, fn_part4] at h
  obtain ⟨hd, h0, h1, h2, h3, h4, h5, h6, h7, h8, h10, h12, h9, h15⟩ := h
  have all : ∀ {s : Shape} {axes : List (Fin s.rank)} {p : s.Idx → BitVec 1} {init : S_.Idx → BitVec 1} {hr : s.ReducesTo axes S_} {hu : 0 < S_.numel},
      Host.reduce IntOp.andi p init hr hu = (fun _ => 1#1) → ∀ i, p i = 1#1 := fun e i =>
    Host.reduce_andi_all _ _ _ _ ValueIdx.ix0 (congrFun e _) i
  refine ⟨fun i => real_of_bit (all h0 i), fun i => real_of_bit (all h1 i), fun i => real_of_bit (all h2 i), fun i => real_of_bit (all h3 i),
    fun i => real_of_bit (all h4 i), fun i => real_of_bit (all h5 i), fun i => real_of_bit (all h6 i), fun i => real_of_bit (all h7 i),
    fun i => real_of_bit (all h8 i), fun i => real_of_bit (all h10 i), fun i => real_of_bit (all h12 i),
    fun i => ne_of_bit (all h9 i), fun i => ne_of_bit (all h15 i), fun n k => ?_⟩
  have e := all hd (ix2 n k)
  clear h0 h1 h2 h3 h4 h5 h6 h7 h8 h10 h12 h9 h15 hd
  refine lt_of_bit (Eq.trans (Eq.symm ?_) e)
  pointwise [fn_sort]
  rw [sort_dist x0 x1 _ ?_ n, sort_dist x0 x1 _ ?_ n]
  · simp only [Nat.add_comm 1]
  all_goals
    intro n j
    rw [Cert.ReferenceIdeal.Hand.dist_apply]
    pointwise

end Cert.Nearest
-- ==== Proof.Value.lean ====
module

public import proofs.«01_k».proof.Proof.Net
public import proofs.«01_k».proof.Proof.Given

@[expose] public section

set_option maxRecDepth 65536

noncomputable section

namespace Cert.KernelIdeal.Hand

open Cert.KernelIdeal.Gen Cert.Nearest
open Idealize.ShloMosaic Idealize.ShloMosaic.TcCoe
open Cert.ReferenceIdeal.Hand (dist pick interpolated rec bnLayer)
open Cert.ReferenceIdeal.Read (val_main_v82)

variable (m : (ℓ : Loc nD τ sig) → Buf (Elt Ideal) ℓ) (c : Dev nD)

/-! # The kernel's result array -/

/-- What the precondition gives, at this memory's arguments. -/
abbrev Ok : Prop := Given (A0 m c) (A1 m c) (A2 m c) (A3 m c) (A4 m c) (A5 m c) (A6 m c) (A7 m c) (A8 m c) (A9 m c) (A10 m c) (A12 m c) (A15 m c)

/-- The reference's result on this memory's arguments. -/
abbrev want : (⟨2, ![128, 16384]⟩ : Shape).Idx → EReal := show (⟨Cert.ReferenceIdeal.S128x16384, .f32⟩ : BufTy).Contents (Elt Ideal) from
  val_main_v82 (F := Ideal) (A0 m c) (A1 m c) (A2 m c) (A3 m c) (A4 m c) (A5 m c) (A6 m c) (A7 m c) (A8 m c) (A9 m c) (A10 m c) (A11 m c) (A12 m c)
    (A13 m c) (A14 m c) (A15 m c)

/-- The kernel's distances and norm of a query against the reference's distances: real, and equal up to the query's
    norm, which the kernel adds after choosing. -/
theorem dist_split (h : Ok m c) (t t' : Fin cfg0.N) (p : Fin 256) (n : Fin 16384) (hn : n.val = min t.val 63 * 256 + p.val) :
    ∃ (d e : Fin 4096 → ℝ) (N : ℝ), (∀ j, 0 ≤ d j) ∧ (∀ j, d j = e j + N) ∧ (∀ j, dist (A0 m c) (A1 m c) n j = (d j : EReal))
      ∧ (∀ j, row (mmOf m c t) (iblk m c 1 t') p j = (e j : EReal)) ∧ nnOf m c t (ix2 p 0) = (N : EReal) := by
  choose x0 h0 using h.r0
  choose x1 h1 using h.r1
  choose d e N hd hs hde he hN using fun j : Fin 4096 => sq_dist (fun k => x0 (ix2 k n)) (fun k => x1 (ix2 k j))
  have hNN : ∀ j, N j = N 0 := fun j => EReal.coe_injective ((hN j).symm.trans (hN 0))
  refine ⟨d, e, N 0, hd, fun j => by rw [hs j, hNN j], fun j => ?_, fun j => ?_, ?_⟩
  · rw [Cert.ReferenceIdeal.Hand.dist_apply, ← hde j]
    simp only [h0, h1]
  · rw [row_apply m c t t' p j n hn, ← he j]
    simp only [h0, h1]
  · rw [nn_apply m c t p n hn, ← hN 0]
    simp only [h0]

/-- A consuming point's block is the reference's result at the block's place. -/
theorem out_apply (h : Ok m c) (t : Fin cfg0.N) (ht : 0 < t.val) (q : Fin 128) (p : Fin 256) (n : Fin 16384)
    (hn : n.val = (t.val - 1) * 256 + p.val) : outOf m c t (ix2 q p) = want m c (ix2 q n) := by
  have hN : t.val < 65 := t.isLt
  have hb : n.val = min (before t).val 63 * 256 + p.val := by
    show n.val = min (t.val - 1) 63 * 256 + p.val
    rw [hn]; congr 2; omega
  obtain ⟨d, e, N, hd0, hde, hd, he, hN⟩ := dist_split m c h (before t) t p n hb
  have h3 : Three (dist (A0 m c) (A1 m c) n) (pick (A0 m c) (A1 m c) n) := three_of_strict _ (h.strict n)
  have hT : Three (row (mmOf m c (before t)) (iblk m c 1 t) p) (pick (A0 m c) (A1 m c) n) := by
    refine Three.of_add N ?_
    have : (fun j => row (mmOf m c (before t)) (iblk m c 1 t) p j + (N : EReal)) = dist (A0 m c) (A1 m c) n :=
      funext fun j => by rw [he j, hd j, hde j, EReal.coe_add]
    rw [this]; exact h3
  obtain ⟨ε, hε, h8⟩ := small_pos
  have hpos : ∀ j, 0 < d j + ε := fun j => add_pos_of_nonneg_of_pos (hd0 j) hε
  let r : Fin 3 → ℝ := fun k => 1 / (d (pick (A0 m c) (A1 m c) n k) + ε)
  have hr0 : ∀ k, 0 < r k := fun k => one_div_pos.mpr (hpos _)
  have hrec : ∀ k, rec (A0 m c) (A1 m c) n k = (r k : EReal) := fun k => by
    unfold rec
    rw [hd, h8, ← EReal.coe_add, Ideal.div_coe (hpos _).ne', one_mul]
  have hr : ∀ k, recip (row (mmOf m c (before t)) (iblk m c 1 t) p) (pick (A0 m c) (A1 m c) n) (nnOf m c (before t) (ix2 p 0)) k = (r k : EReal) :=
    fun k => by
      unfold recip
      rw [he, hN, h8, ← EReal.coe_add, ← hde, ← EReal.coe_add, Ideal.div_coe (hpos _).ne', one_mul]
  choose y2 g2 using h.r2
  choose y3 g3 using h.r3
  choose y4 g4 using h.r4
  choose y5 g5 using h.r5
  choose y6 g6 using h.r6
  choose y7 g7 using h.r7
  choose y8 g8 using h.r8
  choose y10 g10 using h.r10
  choose y12 g12 using h.r12
  choose z hk hz using fun k : Fin 256 => weighted r (fun i => y3 (ix2 k (pick (A0 m c) (A1 m c) n i))) hr0
  have hi : ∀ k, interpolated (A0 m c) (A1 m c) (A3 m c) n k = (z k : EReal) := fun k => by
    rw [← hz k]
    unfold interpolated
    simp only [hrec, g3]
  unfold outOf
  rw [consume_apply hT (by rw [he]; exact EReal.coe_lt_top _) _ _ _ _ _ _ _ q _ hr]
  have w0 : ∀ j k, iblk m c 4 t (ix2 j k) = (y4 (ix2 j k) : EReal) * factor (y6 (ix1 k)) (A9 m c (ix1 k)) := fun j k => by
    rw [blk_w0, V_w0, g4, g6]
  have b0 : ∀ k, iblk m c 5 t (ix2 0 k) = ((y5 (ix1 k) : EReal) - (y8 (ix1 k) : EReal)) * factor (y6 (ix1 k)) (A9 m c (ix1 k)) + (y7 (ix1 k) : EReal) :=
    fun k => by rw [blk_b0, V_b0, g5, g6, g7, g8]
  have w1 : ∀ j k, iblk m c 6 t (ix2 j k) = (y10 (ix2 j k) : EReal) * factor (y12 (ix1 k)) (A15 m c (ix1 k)) := fun j k => by
    rw [blk_w1, V_w1, g10, g12]
  have b1 : ∀ k, iblk m c 7 t (ix2 0 k) = (A11 m c (ix1 k) - A14 m c (ix1 k)) * factor (y12 (ix1 k)) (A15 m c (ix1 k)) + A13 m c (ix1 k) :=
    fun k => by rw [blk_b1, V_b1, g12]
  have p1 : ∀ k, iblk m c 2 t (ix2 p k) = (y2 (ix2 k n) : EReal) := fun k => by rw [blk_p1 m c t p k n hn, V_p1, g2]
  have p2 : ∀ j k, iblk m c 3 t (ix2 j k) = (y3 (ix2 k j) : EReal) := fun j k => by rw [blk_p2, V_p2, g3]
  simp only [w0, b0, w1, b1, p1, p2, hk]
  unfold want
  rw [Cert.ReferenceIdeal.Hand.v82_apply]
  simp only [hi, g2, g4, g5, g6, g7, g8, g10, g12]
  exact net_eq (fun k => y2 (ix2 k n)) z (fun j k => y4 (ix2 j k)) (fun k => y5 (ix1 k)) (fun k => y8 (ix1 k)) (fun k => y6 (ix1 k))
    (fun k => y7 (ix1 k)) (fun k => A9 m c (ix1 k)) (fun k => y10 (ix2 k q)) (y12 (ix1 q)) (A11 m c (ix1 q)) (A14 m c (ix1 q)) (A15 m c (ix1 q))
    (A13 m c (ix1 q)) (fun k => h.n9 _) (h.n15 _)

/-- The result array after the run is the reference's result. -/
theorem final (h : Ok m c) : (dats m 0 c).arrAt 8 (cfgs 0).N = want m c := by
  refine (dats m 0 c).arrAt_eq_of_covers 8 _ (by decide +kernel) fun t hf y => ?_
  have ht : 0 < t.val := Nat.pos_of_ne_zero fun e => by
    have := (conds t).2.2.2.2.2 e
    exact absurd (this.symm.trans hf) (by decide)
  blk_simp
  obtain ⟨q, p, rfl⟩ : ∃ (q : Fin 128) (p : Fin 256), y = ix2 q p := ⟨y 0, y 1, by
    funext a
    match a with
    | ⟨0, _⟩ => rfl
    | ⟨1, _⟩ => rfl⟩
  have hN : t.val < 65 := t.isLt
  refine (out_apply m c h t ht q p ⟨(t.val - 1) * 256 + p.val, by omega⟩ rfl).trans ?_
  blk_ext [idx t]

end Cert.KernelIdeal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_nearest_distinct
public import proofs.«01_k».proof.Proof.RunKernel
public import proofs.«01_k».proof.Proof.RunIdeal
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel runs to the end at the machine's floats, its arguments unchanged and every counter zero. -/
theorem frame_kernel : Cert.quiescent_Kernel (hKernel := Cert.Kernel.Gen.facts) := fun m g _ => Cert.Kernel.Hand.quiescent m g

/-- The idealised kernel runs to the end, its arguments unchanged and every counter zero. -/
theorem frame_ideal : Cert.quiescent_KernelIdeal (hKernelIdeal := Cert.KernelIdeal.Gen.facts) :=
  fun m g _ => Cert.KernelIdeal.Hand.quiescent m g

/-- The idealised kernel's frame under the precondition: a case of the one without. -/
theorem frame_ideal_pre : Cert.quiescent_KernelIdeal_pre_nearest_distinct (hKernelIdeal := Cert.KernelIdeal.Gen.facts)
    (hPre_nearest_distinct := Cert.Pre_nearest_distinct.Gen.facts) := fun m g _ => Cert.KernelIdeal.Hand.quiescent m g

/-- The reference runs to the end, its arguments unchanged; it declares no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems rfl r.2⟩)
    (Cert.ReferenceIdeal.Value.run m g)

/-- The reference's frame under the precondition: a case of the one without. -/
theorem frame_reference_pre : Cert.quiescent_ReferenceIdeal_pre_nearest_distinct (hReferenceIdeal := Cert.ReferenceIdeal.Gen.facts)
    (hPre_nearest_distinct := Cert.Pre_nearest_distinct.Gen.facts) := fun m g _ =>
  (θ_run Cert.ReferenceIdeal.defs _ _).mono (fun r h => ⟨fun c => (h c).2, sem_eq_zero_of_no_sems rfl r.2⟩)
    (Cert.ReferenceIdeal.Value.run m g)

/-- The kernel's "farther than anything" constant, named, stands for plus infinity. -/
theorem preserves : Cert.preserves_Kernel_KernelIdeal :=
  IdealRules.named_const.statement Cert.KernelIdeal.κ "farthest" .f32 0x7F61B1E6#32 ⊤ rfl

/-- From equal arguments that meet the precondition the idealised kernel and the reference end with equal results, both
    leaving their arguments unchanged. -/
theorem algebraic : Cert.algebraic_KernelIdeal_ReferenceIdeal_pre_nearest_distinct (hKernelIdeal := Cert.KernelIdeal.Gen.facts)
    (hReferenceIdeal := Cert.ReferenceIdeal.Gen.facts) (hPre_nearest_distinct := Cert.Pre_nearest_distinct.Gen.facts) := by
  intro m g m' g' hpre hargs
  refine ⟨fun c => Cert.KernelIdeal.Hand.want m c, ?_, ?_⟩
  · refine (θ_run Cert.KernelIdeal.defs _ _).mono (fun r h c => ⟨?_, Cert.KernelIdeal.Hand.args_kept m r h.1 c⟩) (Cert.KernelIdeal.Hand.run_main m g)
    exact ((h.1 c).1 8).trans (Cert.KernelIdeal.Hand.final m c (Cert.Nearest.given_of_pre _ _ _ _ _ _ _ _ _ _ _ _ _ _ _ _ (hpre c)))
  · refine (θ_run Cert.ReferenceIdeal.defs _ _).mono (fun r h c => ⟨(h c).1.trans ?_, (h c).2⟩) (Cert.ReferenceIdeal.Value.run m' g')
    obtain ⟨e0, e1, e2, e3, e4, e5, e6, e7, e8, e9, e10, e11, e12, e13, e14, e15⟩ := hargs c
    rw [Cert.ReferenceIdeal.Read.val_main_v82_eq, e0, e1, e2, e3, e4, e5, e6, e7, e8, e9, e10, e11, e12, e13, e14, e15]

/-- The whole claim. -/
theorem claim : Cert.Claim := ⟨Cert.Kernel.Gen.facts, Cert.KernelIdeal.Gen.facts, Cert.ReferenceIdeal.Gen.facts, Cert.Pre_nearest_distinct.Gen.facts,
  frame_kernel, frame_ideal, frame_ideal_pre, frame_reference, frame_reference_pre, preserves, algebraic⟩

end Cert.Proof

end
